-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.block ⟨3, ![2, 256, 512]⟩ ⟨3, ![16, 256, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S16x256x32x64 : Shape := ⟨4, ![16, 256, 32, 64]⟩
abbrev S256x512 : Shape := ⟨2, ![256, 512]⟩
abbrev S16x256x2048 : Shape := ⟨3, ![16, 256, 2048]⟩
abbrev S8x512x256 : Shape := ⟨3, ![8, 512, 256]⟩
abbrev S8x256x512 : Shape := ⟨3, ![8, 256, 512]⟩
abbrev S2x2x256x256 : Shape := ⟨4, ![2, 2, 256, 256]⟩
abbrev S2 : Shape := ⟨1, ![2]⟩
abbrev S8 : Shape := ⟨1, ![8]⟩
abbrev S1 : Shape := ⟨1, ![1]⟩
abbrev S_ : Shape := ⟨0, ![]⟩
abbrev S1x2x256x256 : Shape := ⟨4, ![1, 2, 256, 256]⟩
abbrev S2x256x256 : Shape := ⟨3, ![2, 256, 256]⟩
abbrev S1x512x256 : Shape := ⟨3, ![1, 512, 256]⟩
abbrev S1x256x512 : Shape := ⟨3, ![1, 256, 512]⟩
abbrev S256x256 : Shape := ⟨2, ![256, 256]⟩
abbrev S512x512 : Shape := ⟨2, ![512, 512]⟩
abbrev S256x64 : Shape := ⟨2, ![256, 64]⟩
abbrev S1x1x256x64 : Shape := ⟨4, ![1, 1, 256, 64]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S16x256x32x64, .f32⟩
  | .hbm, ⟨3, _⟩ => ⟨S16x256x32x64, .f32⟩
  | .hbm, ⟨4, _⟩ => ⟨S256x512, .f32⟩
  | .hbm, ⟨5, _⟩ => ⟨S16x256x2048, .f32⟩
  | .hbm, ⟨6, _⟩ => ⟨S16x256x2048, .f32⟩
  | .hbm, ⟨7, _⟩ => ⟨S512x256, .bf16⟩
  | .hbm, ⟨8, _⟩ => ⟨S256x512, .bf16⟩
  | .hbm, ⟨9, _⟩ => ⟨S2x256x512, .f32⟩
  | .local _ .vmem, ⟨0, _⟩ => ⟨S2x256x512, .f32⟩
  | .local _ .vmem, ⟨1, _⟩ => ⟨S512x256, .bf16⟩
  | .local _ .vmem, ⟨2, _⟩ => ⟨S256x512, .bf16⟩
  | .local _ .vmem, ⟨3, _⟩ => ⟨S2x256x512, .f32⟩
  | .local _ .vmem, ⟨4, _⟩ => ⟨S8x512x256, .bf16⟩
  | .local _ .vmem, ⟨5, _⟩ => ⟨S8x256x512, .bf16⟩
  | .local _ .vmem, ⟨6, _⟩ => ⟨S2x2x256x256, .f32⟩
  | .local _ .vmem, ⟨7, _⟩ => ⟨S2x2x256x256, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v12 : BitVec 32 := Scalar.muli v2 c2_i32
  let c0_i32_13 : BitVec 32 := 0#32
  let c8_i32_5 : BitVec 32 := 8#32
  let v8 : BitVec 32 := Scalar.addi v2 c8_i32_5
  let v9 : BitVec 32 := Scalar.subi v8 c0_i32
  let c8_i32_6 : BitVec 32 := 8#32
  let v10 : BitVec 32 := Scalar.remsi v9 c8_i32_6
  let c256_i32 : BitVec 32 := 256#32
  let v11 : BitVec 32 := Scalar.muli v10 c256_i32
  ![v12.toNat, 0, v11.toNat]
def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_21 : BitVec 32 := 1#32
  let v25 : BitVec 32 := Scalar.muli v7 c1_i32_21
  let v26 : BitVec 32 := Scalar.addi c0_i32_22 v25
  v26.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_24 : BitVec 32 := 1#32
  let v27 : BitVec 32 := Scalar.muli v4 c1_i32_24
  let v28 : BitVec 32 := Scalar.addi c0_i32_25 v27
  v28.toNat
def k0_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_63 : BitVec 32 := 1#32
  let v118 : BitVec 32 := Scalar.muli v4 c1_i32_63
  let v119 : BitVec 32 := Scalar.addi c0_i32_64 v118
  v119.toNat
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_73 : BitVec 32 := 1#32
  let v128 : BitVec 32 := Scalar.muli v4 c1_i32_73
  let v129 : BitVec 32 := Scalar.addi c0_i32_74 v128
  v129.toNat
def k0_dev5 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_271 : BitVec 32 := 1#32
  let v395 : BitVec 32 := Scalar.muli v4 c1_i32_271
  let v396 : BitVec 32 := Scalar.addi c0_i32_272 v395
  v396.toNat
def k0_dev6 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_281 : BitVec 32 := 1#32
  let v405 : BitVec 32 := Scalar.muli v4 c1_i32_281
  let v406 : BitVec 32 := Scalar.addi c0_i32_282 v405
  v406.toNat
def k0_dev7 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_483 : BitVec 32 := 1#32
  let v672 : BitVec 32 := Scalar.muli v4 c1_i32_483
  let v673 : BitVec 32 := Scalar.addi c0_i32_484 v672
  v673.toNat
def k0_dev8 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_493 : BitVec 32 := 1#32
  let v682 : BitVec 32 := Scalar.muli v4 c1_i32_493
  let v683 : BitVec 32 := Scalar.addi c0_i32_494 v682
  v683.toNat
def k0_dev9 (d0 : Dev nD) : Nat :=
  let c0_i32_694 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_693 : BitVec 32 := 1#32
  let v949 : BitVec 32 := Scalar.muli v4 c1_i32_693
  let v950 : BitVec 32 := Scalar.addi c0_i32_694 v949
  v950.toNat
def k0_dev10 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_703 : BitVec 32 := 1#32
  let v959 : BitVec 32 := Scalar.muli v4 c1_i32_703
  let v960 : BitVec 32 := Scalar.addi c0_i32_704 v959
  v960.toNat
def k0_dev11 (d0 : Dev nD) : Nat :=
  let c0_i32_904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_903 : BitVec 32 := 1#32
  let v1226 : BitVec 32 := Scalar.muli v4 c1_i32_903
  let v1227 : BitVec 32 := Scalar.addi c0_i32_904 v1226
  v1227.toNat
def k0_dev12 (d0 : Dev nD) : Nat :=
  let c0_i32_914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_913 : BitVec 32 := 1#32
  let v1236 : BitVec 32 := Scalar.muli v4 c1_i32_913
  let v1237 : BitVec 32 := Scalar.addi c0_i32_914 v1236
  v1237.toNat
def k0_dev13 (d0 : Dev nD) : Nat :=
  let c0_i32_1114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1113 : BitVec 32 := 1#32
  let v1503 : BitVec 32 := Scalar.muli v4 c1_i32_1113
  let v1504 : BitVec 32 := Scalar.addi c0_i32_1114 v1503
  v1504.toNat
def k0_dev14 (d0 : Dev nD) : Nat :=
  let c0_i32_1124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1123 : BitVec 32 := 1#32
  let v1513 : BitVec 32 := Scalar.muli v4 c1_i32_1123
  let v1514 : BitVec 32 := Scalar.addi c0_i32_1124 v1513
  v1514.toNat
def k0_dev15 (d0 : Dev nD) : Nat :=
  let c0_i32_1324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1323 : BitVec 32 := 1#32
  let v1780 : BitVec 32 := Scalar.muli v4 c1_i32_1323
  let v1781 : BitVec 32 := Scalar.addi c0_i32_1324 v1780
  v1781.toNat
def k0_dev16 (d0 : Dev nD) : Nat :=
  let c0_i32_1334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1333 : BitVec 32 := 1#32
  let v1790 : BitVec 32 := Scalar.muli v4 c1_i32_1333
  let v1791 : BitVec 32 := Scalar.addi c0_i32_1334 v1790
  v1791.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x256x512 : Shape := ⟨3, ![16, 256, 512]⟩
abbrev S512x2048 : Shape := ⟨2, ![512, 2048]⟩
abbrev S16x256x32x64 : Shape := ⟨4, ![16, 256, 32, 64]⟩
abbrev S2048x512 : Shape := ⟨2, ![2048, 512]⟩
abbrev S16x256x2048 : Shape := ⟨3, ![16, 256, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S16x32x256x256 : Shape := ⟨4, ![16, 32, 256, 256]⟩
abbrev S1x1x256x256 : Shape := ⟨4, ![1, 1, 256, 256]⟩
abbrev S16x32x256 : Shape := ⟨3, ![16, 32, 256]⟩
abbrev S16x32x256x1 : Shape := ⟨4, ![16, 32, 256, 1]⟩
abbrev S1x1x256x1 : Shape := ⟨4, ![1, 1, 256, 1]⟩
abbrev S16x32x64x256 : Shape := ⟨4, ![16, 32, 64, 256]⟩

abbrev nBuf : Space → Nat
  | .hbm => 123
  | .vmem => 0
  | .smem => 0
  | _ => 0

abbrev bufTy : (tb : Table) → Fin (tcTables nBuf tb) → BufTy
  | .hbm, ⟨0, _⟩ => ⟨S16x256x512, .f32⟩
  | .hbm, ⟨1, _⟩ => ⟨S512x2048, .f32⟩
  | .hbm, ⟨2, _⟩ => ⟨S16x256x32x64, .f32⟩
  | .hbm, ⟨3, _⟩ => ⟨S16x256x32x64, .f32⟩
  | .hbm, ⟨4, _⟩ => ⟨S2048x512, .f32⟩
  | .hbm, ⟨5, _⟩ => ⟨S16x256x2048, .f32⟩
  | .hbm, ⟨6, _⟩ => ⟨S16x256x32x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S_, .i32⟩
  | .hbm, ⟨51, _⟩ => ⟨S1x256, .i32⟩
  | .hbm, ⟨52, _⟩ => ⟨S1x256, .i1⟩
  | .hbm, ⟨53, _⟩ => ⟨S256x256, .i1⟩
  | .hbm, ⟨54, _⟩ => ⟨S256x256, .i1⟩
  | .hbm, ⟨55, _⟩ => ⟨S256x256, .i32⟩
  | .hbm, ⟨56, _⟩ => ⟨S256x256, .i32⟩
  | .hbm, ⟨57, _⟩ => ⟨S256x256, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S_, .i32⟩
  | .hbm, ⟨67, _⟩ => ⟨S256x256, .i32⟩
  | .hbm, ⟨68, _⟩ => ⟨S256x256, .i1⟩
  | .hbm, ⟨69, _⟩ => ⟨S_, .i32⟩
  | .hbm, ⟨70, _⟩ => ⟨S256x256, .i32⟩
  | .hbm, ⟨71, _⟩ => ⟨S256x256, .i1⟩
  | .hbm, ⟨72, _⟩ => ⟨S_, .i32⟩
  | .hbm, ⟨73, _⟩ => ⟨S_, .i1⟩
  | .hbm, ⟨74, _⟩ => ⟨S256x256, .i1⟩
  | .hbm, ⟨75, _⟩ => ⟨S256x256, .i1⟩
  | .hbm, ⟨76, _⟩ => ⟨S256x256, .i1⟩
  | .hbm, ⟨77, _⟩ => ⟨S256x256, .i32⟩
  | .hbm, ⟨78, _⟩ => ⟨S256x256, .i32⟩
  | .hbm, ⟨79, _⟩ => ⟨S256x256, .i32⟩
  | .hbm, ⟨80, _⟩ => ⟨S_, .i32⟩
  | .hbm, ⟨81, _⟩ => ⟨S256x256, .i32⟩
  | .hbm, ⟨82, _⟩ => ⟨S256x256, .i1⟩
  | .hbm, ⟨83, _⟩ => ⟨S256x256, .i1⟩
  | .hbm, ⟨84, _⟩ => ⟨S16x32x256x256, .f32⟩
  | .hbm, ⟨85, _⟩ => ⟨S_, .f32⟩
  | .hbm, ⟨86, _⟩ => ⟨S16x32x256x256, .f32⟩
  | .hbm, ⟨87, _⟩ => ⟨S16x32x256x256, .f32⟩
  | .hbm, ⟨88, _⟩ => ⟨S1x1x256x256, .i1⟩
  | .hbm, ⟨89, _⟩ => ⟨S_, .f32⟩
  | .hbm, ⟨90, _⟩ => ⟨S_, .f32⟩
  | .hbm, ⟨91, _⟩ => ⟨S16x32x256x256, .i1⟩
  | .hbm, ⟨92, _⟩ => ⟨S16x32x256x256, .f32⟩
  | .hbm, ⟨93, _⟩ => ⟨S16x32x256x256, .f32⟩
  | .hbm, ⟨94, _⟩ => ⟨S_, .f32⟩
  | .hbm, ⟨95, _⟩ => ⟨S16x32x256, .f32⟩
  | .hbm, ⟨96, _⟩ => ⟨S16x32x256x1, .f32⟩
  | .hbm, ⟨97, _⟩ => ⟨S16x32x256x256, .f32⟩
  | .hbm, ⟨98, _⟩ => ⟨S16x32x256x256, .f32⟩
  | .hbm, ⟨99, _⟩ => ⟨S16x32x256x256, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S16x32x256, .f32⟩
  | .hbm, ⟨105, _⟩ => ⟨S16x32x256x1, .f32⟩
  | .hbm, ⟨106, _⟩ => ⟨S_, .f32⟩
  | .hbm, ⟨107, _⟩ => ⟨S_, .f32⟩
  | .hbm, ⟨108, _⟩ => ⟨S16x32x256x1, .i1⟩
  | .hbm, ⟨109, _⟩ => ⟨S16x32x256x1, .f32⟩
  | .hbm, ⟨110, _⟩ => ⟨S16x32x256x1, .f32⟩
  | .hbm, ⟨111, _⟩ => ⟨S16x32x256x256, .f32⟩
  | .hbm, ⟨112, _⟩ => ⟨S16x32x256x256, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S16x32x256x256, .i1⟩
  | .hbm, ⟨117, _⟩ => ⟨S16x32x256x256, .f32⟩
  | .hbm, ⟨118, _⟩ => ⟨S16x32x256x256, .f32⟩
  | .hbm, ⟨119, _⟩ => ⟨S16x32x64x256, .f32⟩
  | .hbm, ⟨120, _⟩ => ⟨S16x256x32x64, .f32⟩
  | .hbm, ⟨121, _⟩ => ⟨S16x256x2048, .f32⟩
  | .hbm, ⟨122, _⟩ => ⟨S16x256x512, .f32⟩
  | _, _ => ⟨S16x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Ring.Values.lean ====
module

public import proofs.«01_k».proof.Proof.Gen.KernelIdeal.Skeleton

@[expose] public section

noncomputable section

/-! # What one block of the attention computes

The body of the kernel treats eight blocks of four heads one after another. This file names the value that one
head contributes, and the value that one block adds to the accumulator, at any floating-point semantics. -/

namespace Cert.KernelIdeal.Ring

open Idealize.ShloMosaic Idealize.SL.Sem
open Facts₀ Facts

variable {F : FTy → Type} [FloatOps F]

/-- The mask of the scores: rows and columns fall into tiles of 64; a tile is kept on the diagonal, in the first
column of tiles, or where the two tile numbers add up to a multiple of three. -/
def mask : IVec S256x256 1 :=
  Gen.k0_pay13 (Gen.k0_pay9 Gen.k0_pay4 Gen.k0_pay5 Gen.k0_pay6)
    (Gen.k0_pay10 Gen.k0_pay4 Gen.k0_pay5 Gen.k0_pay6) (Gen.k0_pay11 Gen.k0_pay4 Gen.k0_pay5 Gen.k0_pay6)
    Gen.k0_pay12

/-- The masked scores of one head. -/
def scores (q : FVec F S256x64 .f32) (k : Vec F S1x1x256x64 .f32) : FVec F S256x256 .f32 :=
  select mask
    (mulf (matmul dot_S256x64_S256x64_S256x256_1_1_0_0_n_n none (truncf .bf16 q bitsLt_bf16_f32)
        (truncf .bf16 (shapeCast S256x64 k shapeCasts_S1x1x256x64_S256x64) bitsLt_bf16_f32)
        (constant S256x256 .f32 0x00000000#32))
      (broadcast S256x256 (Scalar.ofBits .f32 0x3E000000#32)))
    (broadcast S256x256 (Scalar.ofBits .f32 0xCE6E6B28#32))

/-- The exponentials of the scores less their row's maximum. -/
def weights (s : FVec F S256x256 .f32) : FVec F S256x256 .f32 :=
  exp (subf s (broadcastTo S256x256
    (shapeCast S256x1 (multiReduction .maximumf [1] S256 s 0xFF800000#32 reduces_S256x256_S256 (.inl rfl) rfl)
      shapeCasts_S256_S256x1) broadcasts_S256x1_S256x256))

/-- The exponentials divided by their row's sum. -/
def probs (e : FVec F S256x256 .f32) : FVec F S256x256 .f32 :=
  divf e (broadcastTo S256x256
    (shapeCast S256x1 (multiReduction .add [1] S256 e 0x00000000#32 reduces_S256x256_S256 (.inl rfl) rfl)
      shapeCasts_S256_S256x1) broadcasts_S256x1_S256x256)

/-- What one head gives: the softmax of its masked scores applied to its values. -/
def head (q : FVec F S256x64 .f32) (k v : Vec F S1x1x256x64 .f32) : FVec F S256x64 .f32 :=
  matmul dot_S256x256_S256x64_S256x64_1_0_0_1_n_n none
    (truncf .bf16 (probs (weights (scores q k))) bitsLt_bf16_f32)
    (truncf .bf16 (shapeCast S256x64 v shapeCasts_S1x1x256x64_S256x64) bitsLt_bf16_f32)
    (constant S256x64 .f32 0x00000000#32)

/-- The queries of one block. -/
def queries (x : Vec F S2x256x512 .f32) (wq : Vec F S1x512x256 .bf16) : FVec F S512x256 .f32 :=
  matmul dot_S512x512_S512x256_S512x256_1_0_0_1_n_n none (Gen.k0_pay14 x)
    (shapeCast S512x256 wq shapeCasts_S1x512x256_S512x256) (constant S512x256 .f32 0x00000000#32)

/-- What a block adds to the accumulator: the heads' results side by side, times the output weights. -/
def chunk (x : Vec F S2x256x512 .f32) (wq : Vec F S1x512x256 .bf16) (wo : Vec F S1x256x512 .bf16)
    (a00 a01 a02 a03 a10 a11 a12 a13 : Vec F S1x1x256x64 .f32 × Vec F S1x1x256x64 .f32)
    (acc : FVec F S512x512 .f32) : FVec F S512x512 .f32 :=
  addf acc (matmul dot_S512x256_S256x512_S512x512_1_0_0_1_n_n none
    (truncf .bf16
      (concatenate S512x256 0
        [⟨S256x256, concatenate S256x256 1
          [⟨S256x64, head (extractStridedSlice S256x64 ![0, 0] (queries x wq) slices_S512x256_o0_0_S256x64) a00.1 a00.2⟩,
           ⟨S256x64, head (extractStridedSlice S256x64 ![0, 64] (queries x wq) slices_S512x256_o0_64_S256x64) a01.1 a01.2⟩,
           ⟨S256x64, head (extractStridedSlice S256x64 ![0, 128] (queries x wq) slices_S512x256_o0_128_S256x64) a02.1 a02.2⟩,
           ⟨S256x64, head (extractStridedSlice S256x64 ![0, 192] (queries x wq) slices_S512x256_o0_192_S256x64) a03.1 a03.2⟩]
          concatenates_S256x64_S256x64_S256x64_S256x64_S256x256_d1⟩,
         ⟨S256x256, concatenate S256x256 1
          [⟨S256x64, head (extractStridedSlice S256x64 ![256, 0] (queries x wq) slices_S512x256_o256_0_S256x64) a10.1 a10.2⟩,
           ⟨S256x64, head (extractStridedSlice S256x64 ![256, 64] (queries x wq) slices_S512x256_o256_64_S256x64) a11.1 a11.2⟩,
           ⟨S256x64, head (extractStridedSlice S256x64 ![256, 128] (queries x wq) slices_S512x256_o256_128_S256x64) a12.1 a12.2⟩,
           ⟨S256x64, head (extractStridedSlice S256x64 ![256, 192] (queries x wq) slices_S512x256_o256_192_S256x64) a13.1 a13.2⟩]
          concatenates_S256x64_S256x64_S256x64_S256x64_S256x256_d1⟩]
        concatenates_S256x256_S256x256_S512x256_d0) bitsLt_bf16_f32)
    (shapeCast S256x512 wo shapeCasts_S1x256x512_S256x512)
    (constant S512x512 .f32 0x00000000#32))

end Cert.KernelIdeal.Ring
-- ==== Proof.Ring.Program.lean ====
module

public import proofs.«01_k».proof.Proof.Ring.Values

@[expose] public section

noncomputable section

/-! # The body, hop by hop

The printed body repeats one pattern for each of the eight blocks. This file writes the pattern once, with the
hop's number as a parameter, and shows that the printed body is its repetition. -/

namespace Cert.KernelIdeal.Ring

open Idealize.ShloMosaic Idealize.SL.Sem
open Facts₀ Facts

variable {F : FTy → Type} [FloatOps F]

/-- The program of one thread. -/
abbrev P (F : FTy → Type) : Type → Type 1 := Prog (TpuEff nD τ sig (Elt F) Λ₀ .tc)

/-- Slot `h` of the query weights lies within the buffer. -/
theorem inbQ : ∀ (h : Fin 8) a, (![h.val, 0, 0] : Fin 3 → Nat) a + S1x512x256.size a ≤ S8x512x256.size a := by decide
/-- Slot `h` of the output weights lies within the buffer. -/
theorem inbO : ∀ (h : Fin 8) a, (![h.val, 0, 0] : Fin 3 → Nat) a + S1x256x512.size a ≤ S8x256x512.size a := by decide
/-- Buffer `p` of the keys or values lies within the scratch buffer. -/
theorem inbP : ∀ (p : Fin 2) a, (![p.val, 0, 0, 0] : Fin 4 → Nat) a + S1x2x256x256.size a ≤ S2x2x256x256.size a := by
  decide
/-- The keys or values of batch `b` and head `n` in buffer `p` lie within the scratch buffer. -/
theorem inbH : ∀ (p b : Fin 2) (n : Fin 4) a,
    (![p.val, b.val, 0, 64 * n.val] : Fin 4 → Nat) a + S1x1x256x64.size a ≤ S2x2x256x256.size a := by decide
/-- Semaphore `h` lies within an array of eight. -/
theorem inbS : ∀ (h : Fin 8) a, (![h.val] : Fin 1 → Nat) a + S1.size a ≤ S8.size a := by decide
/-- Semaphore `p` lies within an array of two. -/
theorem inbT : ∀ (p : Fin 2) a, (![p.val] : Fin 1 → Nat) a + S1.size a ≤ S2.size a := by decide

/-- The rectangle of one slot of the gathered query weights. -/
abbrev rectQ (h : Fin 8) := Rect.unit (s := S8x512x256) ![h.val, 0, 0] S1x512x256.size (inbQ h)
/-- The rectangle of one slot of the gathered output weights. -/
abbrev rectO (h : Fin 8) := Rect.unit (s := S8x256x512) ![h.val, 0, 0] S1x256x512.size (inbO h)
/-- The rectangle of one of the two key or value buffers. -/
abbrev rectP (p : Fin 2) := Rect.unit (s := S2x2x256x256) ![p.val, 0, 0, 0] S1x2x256x256.size (inbP p)
/-- The rectangle of one batch row's head within one of the two key or value buffers. -/
abbrev rectH (p b : Fin 2) (n : Fin 4) :=
  Rect.unit (s := S2x2x256x256) ![p.val, b.val, 0, 64 * n.val] S1x1x256x64.size (inbH p b n)
/-- The rectangle of the block of keys or values a device fetches for its hop `h`. -/
abbrev rectV (c : Dev nD) (h : Fin 8) :=
  Rect.unit (s := S16x256x2048) (k0_off1 c (BitVec.ofNat 32 h.val)) S2x256x256.size (k0_off1_inb c h)

/-- A slot of the query weights is made of whole words. -/
theorem wordsQ (h : Fin 8) : (rectQ h).WholeWords (EltTy.packing .bf16) := by
  fin_cases h
  exacts [wordsbf16_S8x512x256_S1x512x256_0_0_0, wordsbf16_S8x512x256_S1x512x256_1_0_0,
    wordsbf16_S8x512x256_S1x512x256_2_0_0, wordsbf16_S8x512x256_S1x512x256_3_0_0,
    wordsbf16_S8x512x256_S1x512x256_4_0_0, wordsbf16_S8x512x256_S1x512x256_5_0_0,
    wordsbf16_S8x512x256_S1x512x256_6_0_0, wordsbf16_S8x512x256_S1x512x256_7_0_0]

/-- A slot of the output weights is made of whole words. -/
theorem wordsO (h : Fin 8) : (rectO h).WholeWords (EltTy.packing .bf16) := by
  fin_cases h
  exacts [wordsbf16_S8x256x512_S1x256x512_0_0_0, wordsbf16_S8x256x512_S1x256x512_1_0_0,
    wordsbf16_S8x256x512_S1x256x512_2_0_0, wordsbf16_S8x256x512_S1x256x512_3_0_0,
    wordsbf16_S8x256x512_S1x256x512_4_0_0, wordsbf16_S8x256x512_S1x256x512_5_0_0,
    wordsbf16_S8x256x512_S1x256x512_6_0_0, wordsbf16_S8x256x512_S1x256x512_7_0_0]

/-- The memrefs of the kernel: the gathered weights, the two buffers of keys and of values. -/
abbrev memQ : Memref sig .tc .vmem S8x512x256 .bf16 := Memref.whole cc0_scratch0
abbrev memO : Memref sig .tc .vmem S8x256x512 .bf16 := Memref.whole cc0_scratch1
abbrev memK : Memref sig .tc .vmem S2x2x256x256 .f32 := Memref.whole cc0_scratch2
abbrev memV : Memref sig .tc .vmem S2x2x256x256 .f32 := Memref.whole cc0_scratch3
abbrev hbmK : Memref sig .tc .hbm S16x256x2048 .f32 := Memref.whole main_v1
abbrev hbmV : Memref sig .tc .hbm S16x256x2048 .f32 := Memref.whole main_v2
/-- The staging buffers: the activations, the device's own weights, the result. -/
abbrev memX : Memref sig .tc .vmem S2x256x512 .f32 := win0_0.stage (0 : Fin 1)
abbrev memWq : Memref sig .tc .vmem S512x256 .bf16 := win0_1.stage (0 : Fin 1)
abbrev memWo : Memref sig .tc .vmem S256x512 .bf16 := win0_2.stage (0 : Fin 1)
abbrev memOut : Memref sig .tc .vmem S2x256x512 .f32 := win0_3.stage (0 : Fin 1)

/-- Slot `h` of the gathered query weights. -/
abbrev slotQ (h : Fin 8) : Memref sig .tc .vmem S512x256 .bf16 :=
  (memQ.slice (rectQ h) (fun _ => rfl)).squeeze S512x256 squeezes_S1x512x256_S512x256
/-- Slot `h` of the gathered output weights. -/
abbrev slotO (h : Fin 8) : Memref sig .tc .vmem S256x512 .bf16 :=
  (memO.slice (rectO h) (fun _ => rfl)).squeeze S256x512 squeezes_S1x256x512_S256x512
/-- One of the two key buffers. -/
abbrev slotK (p : Fin 2) : Memref sig .tc .vmem S2x256x256 .f32 :=
  (memK.slice (rectP p) (fun _ => rfl)).squeeze S2x256x256 squeezes_S1x2x256x256_S2x256x256
/-- One of the two value buffers. -/
abbrev slotV (p : Fin 2) : Memref sig .tc .vmem S2x256x256 .f32 :=
  (memV.slice (rectP p) (fun _ => rfl)).squeeze S2x256x256 squeezes_S1x2x256x256_S2x256x256
/-- The keys a device fetches for hop `h`. -/
abbrev srcK (c : Dev nD) (h : Fin 8) : Memref sig .tc .hbm S2x256x256 .f32 := hbmK.slice (rectV c h) (fun _ => rfl)
/-- The values a device fetches for hop `h`. -/
abbrev srcV (c : Dev nD) (h : Fin 8) : Memref sig .tc .hbm S2x256x256 .f32 := hbmV.slice (rectV c h) (fun _ => rfl)

/-- Entry `h` of an array of eight semaphores. -/
abbrev semAt8 (A : DmaSems sig S8) (h : Fin 8) : DmaSem sig :=
  ((A.slice (Rect.unit (s := S8) ![h.val] S1.size (inbS h))).squeeze S_ squeezes_S1_S_).sem
/-- Entry `p` of an array of two semaphores. -/
abbrev semAt2 (A : DmaSems sig S2) (p : Fin 2) : DmaSem sig :=
  ((A.slice (Rect.unit (s := S2) ![p.val] S1.size (inbT p))).squeeze S_ squeezes_S1_S_).sem

/-- A slot of the query weights, as a view, is made of whole words. -/
theorem exactQ (h : Fin 8) : (slotQ h).view.WordExact :=
  ((Memref.isWhole_whole _).wordExact_slice rfl _ (wordsQ h)).reshape _ _
/-- A slot of the output weights, as a view, is made of whole words. -/
theorem exactO (h : Fin 8) : (slotO h).view.WordExact :=
  ((Memref.isWhole_whole _).wordExact_slice rfl _ (wordsO h)).reshape _ _

/-- Send slot `h` of the query weights to slot `h + 1` of the device `r`. -/
def sendQ (r : Dev nD) (h h' : Fin 8) : P F PUnit.{1} :=
  Prog.lift (.enqueueDma (slotQ h) (.remote (Dev.tc r) (slotQ h') (.dma (semAt8 cc0_scratch6 h)))
    (.dma (semAt8 cc0_scratch7 h')) (exactQ h) (exactQ h') ⟨⟨rfl, Or.inl rfl⟩, trivial⟩)

/-- Send slot `h` of the output weights to slot `h + 1` of the device `r`. -/
def sendO (r : Dev nD) (h h' : Fin 8) : P F PUnit.{1} :=
  Prog.lift (.enqueueDma (slotO h) (.remote (Dev.tc r) (slotO h') (.dma (semAt8 cc0_scratch8 h)))
    (.dma (semAt8 cc0_scratch9 h')) (exactO h) (exactO h') ⟨⟨rfl, Or.inl rfl⟩, trivial⟩)

/-- Wait until slot `h` of the query weights has left, and slot `h + 1` has arrived. -/
def waitQ (h h' : Fin 8) : P F PUnit.{1} := do
  Prog.lift (.waitDma2 (semAt8 cc0_scratch6 h) (slotQ h') (slotQ h) (exactQ h') (exactQ h))
  Prog.lift (.waitDma2 (semAt8 cc0_scratch7 h') (slotQ h) (slotQ h') (exactQ h) (exactQ h'))

/-- Wait until slot `h` of the output weights has left, and slot `h + 1` has arrived. -/
def waitO (h h' : Fin 8) : P F PUnit.{1} := do
  Prog.lift (.waitDma2 (semAt8 cc0_scratch8 h) (slotO h') (slotO h) (exactO h') (exactO h))
  Prog.lift (.waitDma2 (semAt8 cc0_scratch9 h') (slotO h) (slotO h') (exactO h) (exactO h'))

/-- Start copying the keys of hop `h` into buffer `p`. -/
def fetchK (c : Dev nD) (h : Fin 8) (p : Fin 2) : P F PUnit.{1} :=
  Prog.lift (.enqueueDma (srcK c h) (.here (slotK p)) (.dma (semAt2 cc0_scratch4 p)) (View.wordExact_bits rfl)
    ((View.wordExact_bits rfl).reshape _ _) ⟨Or.inl rfl, trivial⟩)

/-- Start copying the values of hop `h` into buffer `p`. -/
def fetchV (c : Dev nD) (h : Fin 8) (p : Fin 2) : P F PUnit.{1} :=
  Prog.lift (.enqueueDma (srcV c h) (.here (slotV p)) (.dma (semAt2 cc0_scratch5 p)) (View.wordExact_bits rfl)
    ((View.wordExact_bits rfl).reshape _ _) ⟨Or.inl rfl, trivial⟩)

/-- Wait for the keys of buffer `p`. -/
def waitK (p : Fin 2) : P F PUnit.{1} :=
  Prog.lift (.waitDma2 (semAt2 cc0_scratch4 p)
    (hbmK.slice (Rect.unit (s := S16x256x2048) ![0, 0, 0] S2x256x256.size inb_S16x256x2048_S2x256x256_0_0_0) (fun _ => rfl))
    (slotK p) (View.wordExact_bits rfl) ((View.wordExact_bits rfl).reshape _ _))

/-- Wait for the values of buffer `p`. -/
def waitV (p : Fin 2) : P F PUnit.{1} :=
  Prog.lift (.waitDma2 (semAt2 cc0_scratch5 p)
    (hbmV.slice (Rect.unit (s := S16x256x2048) ![0, 0, 0] S2x256x256.size inb_S16x256x2048_S2x256x256_0_0_0) (fun _ => rfl))
    (slotV p) (View.wordExact_bits rfl) ((View.wordExact_bits rfl).reshape _ _))

/-- Load one head's keys and values. -/
def loadHead (p b : Fin 2) (n : Fin 4) : P F (Vec F S1x1x256x64 .f32 × Vec F S1x1x256x64 .f32) := do
  let k : Vec F S1x1x256x64 .f32 ← Prog.lift (.load memK (rectH p b n).toLoadRect (View.loadsAt_vmem h_S1x1x256x64))
  let v : Vec F S1x1x256x64 .f32 ← Prog.lift (.load memV (rectH p b n).toLoadRect (View.loadsAt_vmem h_S1x1x256x64))
  pure (k, v)

/-- The block of hop `h`, whose keys and values lie in buffer `p`. -/
def comp (x : Vec F S2x256x512 .f32) (h : Fin 8) (p : Fin 2) (acc : FVec F S512x512 .f32) :
    P F (FVec F S512x512 .f32) := do
  let wq : Vec F S1x512x256 .bf16 ← Prog.lift (.load memQ (rectQ h).toLoadRect (View.loadsAt_vmem h_S1x512x256))
  let wo : Vec F S1x256x512 .bf16 ← Prog.lift (.load memO (rectO h).toLoadRect (View.loadsAt_vmem h_S1x256x512))
  let a00 ← loadHead p 0 0
  let a01 ← loadHead p 0 1
  let a02 ← loadHead p 0 2
  let a03 ← loadHead p 0 3
  let a10 ← loadHead p 1 0
  let a11 ← loadHead p 1 1
  let a12 ← loadHead p 1 2
  let a13 ← loadHead p 1 3
  pure (chunk x wq wo a00 a01 a02 a03 a10 a11 a12 a13 acc)

/-- One hop: send this hop's weights on, fetch the next hop's keys and values, compute, wait. -/
def hop (c r r' : Dev nD) (x : Vec F S2x256x512 .f32) (h h' : Fin 8) (p p' : Fin 2) (acc : FVec F S512x512 .f32) :
    P F (FVec F S512x512 .f32) := do
  sendQ r h h'
  sendO r' h h'
  fetchK c h' p'
  fetchV c h' p'
  waitK p
  waitV p
  let acc ← comp x h p acc
  waitQ h h'
  waitO h h'
  pure acc

/-- What comes before the first hop: the first fetch, the handshake with both neighbours, the device's own
weights stored in slot 0, and the activations loaded. -/
def start (c left right : Dev nD) : P F (Vec F S2x256x512 .f32) := do
  fetchK c 0 0
  fetchV c 0 0
  semSignalWord left (SemArray.scalar (sig.barrier 0 rfl) : Sems sig S_).sem 1#32
  semSignalWord right (SemArray.scalar (sig.barrier 0 rfl) : Sems sig S_).sem 1#32
  semWaitWord (SemArray.scalar (sig.barrier 0 rfl) : Sems sig S_).sem 2#32
  let wq : Vec F S512x256 .bf16 ← Prog.lift (.load memWq
    (Rect.unit (s := S512x256) ![0, 0] S512x256.size inb_S512x256_S512x256_0_0).toLoadRect
    (View.loadsAt_vmem h_S512x256))
  let _ : Vec F S1x512x256 .bf16 ← Prog.lift (.load memQ (rectQ 0).toLoadRect (View.loadsAt_vmem h_S1x512x256))
  Prog.lift (.store memQ (rectQ 0) (Gen.k0_pay2 wq) Finset.univ
    (View.stores_vmem h_S1x512x256 ((Memref.isWhole_whole _).storeExact_slice rfl _ packedbf16_S8x512x256_S1x512x256_0_0_0)
      (fun _ => rfl)) (.inl rfl))
  let wo : Vec F S256x512 .bf16 ← Prog.lift (.load memWo
    (Rect.unit (s := S256x512) ![0, 0] S256x512.size inb_S256x512_S256x512_0_0).toLoadRect
    (View.loadsAt_vmem h_S256x512))
  let _ : Vec F S1x256x512 .bf16 ← Prog.lift (.load memO (rectO 0).toLoadRect (View.loadsAt_vmem h_S1x256x512))
  Prog.lift (.store memO (rectO 0) (Gen.k0_pay3 wo) Finset.univ
    (View.stores_vmem h_S1x256x512 ((Memref.isWhole_whole _).storeExact_slice rfl _ packedbf16_S8x256x512_S1x256x512_0_0_0)
      (fun _ => rfl)) (.inl rfl))
  Prog.lift (.load memX (Rect.unit (s := S2x256x512) ![0, 0, 0] S2x256x512.size inb_S2x256x512_S2x256x512_0_0_0).toLoadRect
    (View.loadsAt_vmem h_S2x256x512))

/-- What comes after the last hop: the last block, and the result stored. -/
def finish (x : Vec F S2x256x512 .f32) (acc : FVec F S512x512 .f32) : P F PUnit.{1} := do
  waitK 1
  waitV 1
  let acc ← comp x 7 1 acc
  let _ : Vec F S2x256x512 .f32 ← Prog.lift (.load memOut
    (Rect.unit (s := S2x256x512) ![0, 0, 0] S2x256x512.size inb_S2x256x512_S2x256x512_0_0_0).toLoadRect
    (View.loadsAt_vmem h_S2x256x512))
  Prog.lift (.store memOut (Rect.unit (s := S2x256x512) ![0, 0, 0] S2x256x512.size inb_S2x256x512_S2x256x512_0_0_0)
    (shapeCast S2x256x512 acc shapeCasts_S512x512_S2x256x512) Finset.univ
    (View.stores_vmem_bits_univ h_S2x256x512 rfl) (.inl rfl))

/-- The whole body. -/
def body : P F PUnit.{1} := do
  let c ← Prog.lift .deviceId
  let x ← start c ⟨k0_dev1 c, k0_dev1_lt c⟩ ⟨k0_dev2 c, k0_dev2_lt c⟩
  let acc ← hop c ⟨k0_dev3 c, k0_dev3_lt c⟩ ⟨k0_dev4 c, k0_dev4_lt c⟩ x 0 1 0 1 Gen.k0_pay15
  let acc ← hop c ⟨k0_dev5 c, k0_dev5_lt c⟩ ⟨k0_dev6 c, k0_dev6_lt c⟩ x 1 2 1 0 acc
  let acc ← hop c ⟨k0_dev7 c, k0_dev7_lt c⟩ ⟨k0_dev8 c, k0_dev8_lt c⟩ x 2 3 0 1 acc
  let acc ← hop c ⟨k0_dev9 c, k0_dev9_lt c⟩ ⟨k0_dev10 c, k0_dev10_lt c⟩ x 3 4 1 0 acc
  let acc ← hop c ⟨k0_dev11 c, k0_dev11_lt c⟩ ⟨k0_dev12 c, k0_dev12_lt c⟩ x 4 5 0 1 acc
  let acc ← hop c ⟨k0_dev13 c, k0_dev13_lt c⟩ ⟨k0_dev14 c, k0_dev14_lt c⟩ x 5 6 1 0 acc
  let acc ← hop c ⟨k0_dev15 c, k0_dev15_lt c⟩ ⟨k0_dev16 c, k0_dev16_lt c⟩ x 6 7 0 1 acc
  finish x acc

end Cert.KernelIdeal.Ring
-- ==== Proof.Ring.Cells.lean ====
module

public import proofs.«01_k».proof.Proof.Ring.Program
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.Transfers
public import Idealize.ShloMosaic.Lib.Tactic
public import Mathlib.Algebra.Order.BigOperators.Group.LocallyFinite

@[expose] public section

noncomputable section

/-! # The ring's semaphores: what each device owes, and in which order it may wait

A device pays its right neighbour's arrival semaphores, hop after hop, and the barriers of both neighbours. This
file names the cells, the amounts owed before each hop, and the levels under which no wait closes a cycle. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-- The algebra of the ring's rounds: two duties per cell at most. -/
abbrev UB : Type := URounds (GSem nD τ sig) Bool
/-- The pipeline's algebra, the ring's, and the counters of the local copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds inside the machine's algebra. -/
def ER : Emb UB (MT nD τ sig Unit (Elt F) ℕ UU ℕ) := (Emb.inl : Emb UB (UB × Counters)).trans embR
instance ER_landsIn : (ER (F := F)).LandsIn (upEmb : UEmb _ (MT nD τ sig Unit (Elt F) ℕ UU ℕ)) := by
  unfold ER; infer_instance
abbrev EC : UEmb Counters (MT nD τ sig Unit (Elt F) ℕ UU ℕ) := countersEmb

/-- The right neighbour. -/
abbrev nxt (c : Dev nD) : Dev nD := ⟨(c.val + 1) % 8, Nat.mod_lt _ (by decide)⟩
/-- The left neighbour. -/
abbrev prv (c : Dev nD) : Dev nD := ⟨(c.val + 7) % 8, Nat.mod_lt _ (by decide)⟩
/-- The device whose weights a device holds in slot `h`. -/
def back (c : Dev nD) (h : Fin 8) : Dev nD := ⟨(c.val + 8 - h.val) % 8, Nat.mod_lt _ (by decide)⟩

/-- The right neighbour of the left neighbour is the device itself. -/
theorem nxt_prv (c : Dev nD) : nxt (prv c) = c := by revert c; decide
/-- The left neighbour of the right neighbour is the device itself. -/
theorem prv_nxt (c : Dev nD) : prv (nxt c) = c := by revert c; decide
/-- Slot 0 holds the device's own weights. -/
theorem back_zero (c : Dev nD) : back c 0 = c := by revert c; decide
/-- What a device holds in a slot is what its right neighbour holds one slot further. -/
theorem back_nxt (c : Dev nD) : ∀ h h' : Fin 8, h'.val = h.val + 1 → back (nxt c) h' = back c h := by
  revert c; decide

/-! ## The semaphores' numbers -/

/-- The number of the semaphore of buffer `p` of the keys. -/
theorem semK_val : ∀ p : Fin 2, (semAt2 cc0_scratch4 p).val = 4 + p.val := by decide
/-- The number of the semaphore of buffer `p` of the values. -/
theorem semV_val : ∀ p : Fin 2, (semAt2 cc0_scratch5 p).val = 6 + p.val := by decide
/-- The number of the departure semaphore of slot `h` of the query weights. -/
theorem semSQ_val : ∀ h : Fin 8, (semAt8 cc0_scratch6 h).val = 8 + h.val := by decide
/-- The number of the arrival semaphore of slot `h` of the query weights. -/
theorem semRQ_val : ∀ h : Fin 8, (semAt8 cc0_scratch7 h).val = 16 + h.val := by decide
/-- The number of the departure semaphore of slot `h` of the output weights. -/
theorem semSO_val : ∀ h : Fin 8, (semAt8 cc0_scratch8 h).val = 24 + h.val := by decide
/-- The number of the arrival semaphore of slot `h` of the output weights. -/
theorem semRO_val : ∀ h : Fin 8, (semAt8 cc0_scratch9 h).val = 32 + h.val := by decide

/-- The barrier's semaphore. -/
abbrev barSem : Sem sig := (SemArray.scalar (sig.barrier 0 rfl) : Sems sig S_).sem

/-- A device's barrier cell, and its cells of departure and arrival of either array of weights. -/
abbrev bar (c : Dev nD) : GSem nD τ sig := ((c : Thread nD τ), .reg barSem)
abbrev ssq (c : Dev nD) (h : Fin 8) : GSem nD τ sig := ((c : Thread nD τ), .dma (semAt8 cc0_scratch6 h))
abbrev rsq (c : Dev nD) (h : Fin 8) : GSem nD τ sig := ((c : Thread nD τ), .dma (semAt8 cc0_scratch7 h))
abbrev sso (c : Dev nD) (h : Fin 8) : GSem nD τ sig := ((c : Thread nD τ), .dma (semAt8 cc0_scratch8 h))
abbrev rso (c : Dev nD) (h : Fin 8) : GSem nD τ sig := ((c : Thread nD τ), .dma (semAt8 cc0_scratch9 h))
/-- Its cells of the local copies of keys and values. -/
abbrev ksm (c : Dev nD) (p : Fin 2) : GSem nD τ sig := ((c : Thread nD τ), .dma (semAt2 cc0_scratch4 p))
abbrev vsm (c : Dev nD) (p : Fin 2) : GSem nD τ sig := ((c : Thread nD τ), .dma (semAt2 cc0_scratch5 p))

/-- The units a transfer of one slot credits. -/
def NQ : ℕ := (slotQ 0).view.dmaCredit
def NO : ℕ := (slotO 0).view.dmaCredit
def NK : ℕ := (slotK 0).view.dmaCredit
def NV : ℕ := (slotV 0).view.dmaCredit

/-- Every slot of the query weights credits the same units. -/
theorem NQ_eq (h : Fin 8) : (slotQ h).view.dmaCredit = NQ := rfl
/-- Every slot of the output weights credits the same units. -/
theorem NO_eq (h : Fin 8) : (slotO h).view.dmaCredit = NO := rfl
/-- Both buffers of the keys credit the same units. -/
theorem NK_eq (p : Fin 2) : (slotK p).view.dmaCredit = NK := rfl
/-- Both buffers of the values credit the same units. -/
theorem NV_eq (p : Fin 2) : (slotV p).view.dmaCredit = NV := rfl
/-- A copy of query weights credits at least one unit. -/
theorem NQ_pos : 0 < NQ := View.dmaCredit_pos _ (by decide)
/-- A copy of output weights credits at least one unit. -/
theorem NO_pos : 0 < NO := View.dmaCredit_pos _ (by decide)
/-- A copy of keys credits at least one unit. -/
theorem NK_pos : 0 < NK := View.dmaCredit_pos _ (by decide)
/-- A copy of values credits at least one unit. -/
theorem NV_pos : 0 < NV := View.dmaCredit_pos _ (by decide)

/-! ## What a device owes -/

/-- Slot `i + 1`, for a hop's number `i`. -/
abbrev up (i : ℕ) : Fin 8 := Fin.ofNat 8 (i + 1)
/-- The slot after `h`, by its number. -/
theorem up_eq (h h' : Fin 8) (e : h'.val = h.val + 1) : up h.val = h' :=
  Fin.ext (by simp only [up, Fin.ofNat]; rw [e]; omega)

/-- What a device owes for hop `i`: the arrival of both weights at its right neighbour. -/
abbrev due (c : Dev nD) (i : ℕ) : CellTallies nD τ sig Unit :=
  tallyAt (rso (nxt c) (up i)) () NO + tallyAt (rsq (nxt c) (up i)) () NQ
/-- What it owes from hop `h` on. -/
def dues (c : Dev nD) (h : ℕ) : CellTallies nD τ sig Unit := ∑ i ∈ Finset.Ico h 7, due c i
/-- What it owes at launch: the barriers of its two neighbours, and every hop. -/
def owe (c : Dev nD) : CellTallies nD τ sig Unit :=
  (dues c 0 + tallyAt (bar (nxt c)) () 1) + tallyAt (bar (prv c)) () 1

/-- What is owed from hop `h` on is what is owed from the next hop on, and the two arrivals of hop `h`. -/
theorem dues_succ (c : Dev nD) (h : ℕ) (hh : h < 7) :
    dues c h = (dues c (h + 1) + tallyAt (rso (nxt c) (up h)) () NO) + tallyAt (rsq (nxt c) (up h)) () NQ := by
  unfold dues due
  rw [Finset.sum_eq_sum_Ico_succ_bot hh, add_comm, add_assoc]
/-- After the seventh hop nothing is owed. -/
theorem dues_seven (c : Dev nD) : dues c 7 = 0 := by unfold dues; rw [Finset.Ico_self, Finset.sum_empty]

/-! ## The levels -/

/-- Every cell of a device has one level. -/
def L (g : GSem nD τ sig) : Finset Unit := if g.1.2 = .tc then {()} else ∅
/-- The barriers at level one, arrival in slot `k` at level `k + 1`, every other cell at level zero. -/
def lv (g : GSem nD τ sig) (_ : Unit) : ℕ :=
  match g.2 with
  | .reg _ => 1
  | .dma s => if 16 ≤ s.val ∧ s.val < 24 then s.val - 15 else if 32 ≤ s.val then s.val - 31 else 0

/-- A cell outside the main core has no level. -/
theorem L_of_ne (g : GSem nD τ sig) (h : g.1.2 ≠ .tc) : L g = ∅ := if_neg h
/-- A cell of the main core has one level. -/
theorem L_tc (c : Dev nD) (sm : SemLoc sig) : L ((c : Thread nD τ), sm) = {()} := if_pos rfl

/-- The level of arrival in slot `h` of the query weights. -/
theorem lv_rsq (c : Dev nD) (h : Fin 8) : lv (rsq c h) () = h.val + 1 := by
  have := semRQ_val h; unfold lv; dsimp only; rw [this]; split_ifs <;> omega
/-- The level of arrival in slot `h` of the output weights. -/
theorem lv_rso (c : Dev nD) (h : Fin 8) : lv (rso c h) () = h.val + 1 := by
  have := semRO_val h; unfold lv; dsimp only; rw [this]; split_ifs <;> omega
/-- Departures of query weights are at level zero. -/
theorem lv_ssq (c : Dev nD) (h : Fin 8) : lv (ssq c h) () = 0 := by
  have := semSQ_val h; unfold lv; dsimp only; rw [this]; split_ifs <;> omega
/-- Departures of output weights are at level zero. -/
theorem lv_sso (c : Dev nD) (h : Fin 8) : lv (sso c h) () = 0 := by
  have := semSO_val h; unfold lv; dsimp only; rw [this]; split_ifs <;> omega
/-- Local copies of keys are at level zero. -/
theorem lv_ksm (c : Dev nD) (p : Fin 2) : lv (ksm c p) () = 0 := by
  have := semK_val p; unfold lv; dsimp only; rw [this]; split_ifs <;> omega
/-- Local copies of values are at level zero. -/
theorem lv_vsm (c : Dev nD) (p : Fin 2) : lv (vsm c p) () = 0 := by
  have := semV_val p; unfold lv; dsimp only; rw [this]; split_ifs <;> omega

/-- A positive tally at one cell is at that cell. -/
theorem tallyAt_pos {g₀ g : GSem nD τ sig} {n : ℕ} {u : Unit}
    (h : 0 < (tallyAt g₀ () n : CellTallies nD τ sig Unit) g u) : g = g₀ := by
  rw [tallyAt_apply] at h; by_contra hne
  rw [if_neg (fun e => hne e.1)] at h; exact absurd h (Nat.lt_irrefl 0)

/-- Owed from hop `h` on are arrivals above level `h + 1`, at devices. -/
theorem dues_pos {c : Dev nD} {h : ℕ} {g : GSem nD τ sig} {u : Unit} (hg : 0 < dues c h g u) :
    g.1.2 = .tc ∧ h + 1 < lv g () := by
  unfold dues at hg
  rw [Finset.sum_apply, Finsupp.finsetSum_apply] at hg
  obtain ⟨i, hi, hne⟩ := Finset.exists_ne_zero_of_sum_ne_zero (Nat.pos_iff_ne_zero.mp hg)
  rw [Finset.mem_Ico] at hi
  have hup : (up i).val = i + 1 := by simp only [up, Fin.ofNat]; omega
  unfold due at hne
  rw [Pi.add_apply, Finsupp.add_apply] at hne
  rcases Nat.eq_zero_or_pos ((tallyAt (rso (nxt c) (up i)) () NO : CellTallies nD τ sig Unit) g u) with h0 | h0
  · rw [h0, zero_add] at hne
    rw [tallyAt_pos (Nat.pos_iff_ne_zero.mpr hne)]
    exact ⟨rfl, by rw [lv_rsq, hup]; omega⟩
  · rw [tallyAt_pos h0]
    exact ⟨rfl, by rw [lv_rso, hup]; omega⟩

/-- A device that owes the hops from `h` on may wait at any level up to `h + 1`. -/
theorem mayWait_dues (c : Dev nD) (sm : SemLoc sig) (h : ℕ) (hl : lv ((c : Thread nD τ), sm) () ≤ h + 1) :
    (levAts L lv : sProp 𝕄) ⊢ MayWait (c : Thread nD τ) sm () (dues c h) :=
  MayOwe.of_cut (L := L) (lev := lv) (h + 1)
    (fun p hp => by rw [Finset.mem_singleton.mp hp, L_tc]; exact Finset.mem_singleton_self _)
    (fun g u hg => by unfold L; rw [if_pos (dues_pos hg).1]; cases u; exact Finset.mem_singleton_self _)
    (fun p hp => by rw [Finset.mem_singleton.mp hp]; exact hl)
    (fun g u hg => by cases u; exact (dues_pos hg).2)

/-- A device that owes all of it may wait at level zero. -/
theorem mayWait_owe (c : Dev nD) (sm : SemLoc sig) (hl : lv ((c : Thread nD τ), sm) () = 0) :
    (levAts L lv : sProp 𝕄) ⊢ MayWait (c : Thread nD τ) sm () (owe c) := by
  have hpos {g : GSem nD τ sig} {u : Unit} (hg : 0 < owe c g u) : g.1.2 = .tc ∧ 0 < lv g () := by
    unfold owe at hg
    rw [Pi.add_apply, Finsupp.add_apply, Pi.add_apply, Finsupp.add_apply] at hg
    rcases Nat.eq_zero_or_pos (dues c 0 g u) with h0 | h0
    · rcases Nat.eq_zero_or_pos ((tallyAt (bar (nxt c)) () 1 : CellTallies nD τ sig Unit) g u) with h1 | h1
      · rw [h0, h1] at hg
        rw [Nat.zero_add] at hg
        rw [tallyAt_pos hg]; exact ⟨rfl, Nat.one_pos⟩
      · rw [tallyAt_pos h1]; exact ⟨rfl, Nat.one_pos⟩
    · exact ⟨(dues_pos h0).1, lt_trans Nat.one_pos (dues_pos h0).2⟩
  exact MayOwe.of_cut (L := L) (lev := lv) 0
    (fun p hp => by rw [Finset.mem_singleton.mp hp, L_tc]; exact Finset.mem_singleton_self _)
    (fun g u hg => by unfold L; rw [if_pos (hpos hg).1]; cases u; exact Finset.mem_singleton_self _)
    (fun p hp => by rw [Finset.mem_singleton.mp hp]; exact le_of_eq hl)
    (fun g u hg => by cases u; exact (hpos hg).2)

end Cert.KernelIdeal.Ring

end
-- ==== Proof.Ring.Schedule.lean ====
module

public import proofs.«01_k».proof.Proof.Ring.Cells
public import Idealize.ShloMosaic.Lib.MemrefSat

@[expose] public section

noncomputable section

/-! # The ring's protocol

What every device holds at the start, what a unit on each semaphore of the ring carries, and the assertions between
two hops. A departure carries back the half of the slot that was lent to the transfer; an arrival carries the slot,
filled with the left neighbour's weights; the right neighbour's signal on the barrier carries all its empty slots. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Facts₀ Facts

variable {F : FTy → Type} [FloatOps F]

local notation "𝕄" => MT nD τ sig Unit (Elt F) ℕ UU ℕ

/-- The arrays the devices start from: activations, their blocks of the weights, and all keys and values. -/
structure Blocks (F : FTy → Type) where
  x : Dev nD → Vec F S2x256x512 .f32
  wq : Dev nD → Vec F S512x256 .bf16
  wo : Dev nD → Vec F S256x512 .bf16
  k : Dev nD → Vec F S16x256x2048 .f32
  v : Dev nD → Vec F S16x256x2048 .f32

variable (B : Blocks F)

/-! ## What a device holds -/

/-- Slot `h` of either array of weights, its contents unknown. -/
def freeQ (c : Dev nD) (h : Fin 8) : sProp 𝕄 :=
  iprop(∃ f, (slotQ h).view.loc (c : Thread nD τ) ↦[(slotQ h).view.set]{fullShare} f)
def freeO (c : Dev nD) (h : Fin 8) : sProp 𝕄 :=
  iprop(∃ f, (slotO h).view.loc (c : Thread nD τ) ↦[(slotO h).view.set]{fullShare} f)
/-- Slot `h` filled: it holds the weights of the device `h` places to the left. -/
def heldQ (c : Dev nD) (h : Fin 8) (q : PosShare TreeShare) : sProp 𝕄 :=
  owns (c : Thread nD τ) (slotQ h) q (B.wq (back c h))
def heldO (c : Dev nD) (h : Fin 8) (q : PosShare TreeShare) : sProp 𝕄 :=
  owns (c : Thread nD τ) (slotO h) q (B.wo (back c h))

instance freeQ_storable (c : Dev nD) (h : Fin 8) : Storable (upEmb : UEmb _ 𝕄) (freeQ (F := F) c h) := by
  unfold freeQ; infer_instance
instance freeO_storable (c : Dev nD) (h : Fin 8) : Storable (upEmb : UEmb _ 𝕄) (freeO (F := F) c h) := by
  unfold freeO; infer_instance
instance heldQ_storable (c : Dev nD) (h : Fin 8) (q : PosShare TreeShare) :
    Storable (upEmb : UEmb _ 𝕄) (heldQ B c h q) := by unfold heldQ; infer_instance
instance heldO_storable (c : Dev nD) (h : Fin 8) (q : PosShare TreeShare) :
    Storable (upEmb : UEmb _ 𝕄) (heldO B c h q) := by unfold heldO; infer_instance

/-- What a device hands its left neighbour for hop `k`: the empty slots `k + 1`, ready to be filled. -/
def spare (d : Dev nD) (k : Fin 7) : sProp 𝕄 :=
  iprop(freeQ (F := F) d k.succ ∗ freeO (F := F) d k.succ ∗ reached ER (rsq d k.succ) 0 ∗ reached ER (rso d k.succ) 0)

instance spare_storable (d : Dev nD) (k : Fin 7) : Storable (upEmb : UEmb _ 𝕄) (spare (F := F) d k) := by
  unfold spare; infer_instance

/-! ## The schedule -/

/-- What a unit on a transfer's semaphore carries, by the semaphore's array and its number there. -/
def carries (c : Dev nD) (j : ℕ) (h : Fin 8) : sProp 𝕄 :=
  if j = 0 then heldQ B c h fullShare.right
  else if j = 1 then heldQ B c h fullShare
  else if j = 2 then heldO B c h fullShare.right
  else heldO B c h fullShare

instance carries_storable (c : Dev nD) (j : ℕ) (h : Fin 8) : Storable (upEmb : UEmb _ 𝕄) (carries B c j h) := by
  unfold carries; split_ifs <;> infer_instance

/-- What the units on a cell carry. -/
def payload (g : GSem nD τ sig) (d : Bool) : sProp 𝕄 :=
  match g.2 with
  | .reg _ => if d then bigSep Finset.univ (spare (F := F) (nxt g.1.1)) else iprop(emp)
  | .dma s => carries B g.1.1 ((s.val - 8) / 8) (Fin.ofNat 8 s.val)

instance payload_storable (g : GSem nD τ sig) (d : Bool) : Storable (upEmb : UEmb _ 𝕄) (payload B g d) := by
  unfold payload
  split
  · split_ifs <;> infer_instance
  · infer_instance

/-- One round on every cell: two signals on a barrier, one transfer on the others. -/
def sched : Schedule (GSem nD τ sig) Bool 𝕄 where
  duties g r := if r = 0 then (match g.2 with | .reg _ => {true, false} | .dma s => if 8 ≤ s.val then {false} else ∅) else ∅
  amount g _ _ := match g.2 with | .reg _ => 1 | .dma s => if s.val < 24 then NQ else NO
  payload g _ d := payload B g d
  amount_pos g r d _ := by
    dsimp only
    split
    · exact Nat.one_pos
    · split_ifs
      exacts [NQ_pos, NO_pos]

instance sched_storable (g : GSem nD τ sig) (r : ℕ) (d : Bool) :
    Storable (upEmb : UEmb _ 𝕄) ((sched B).payload g r d) := payload_storable B g d

/-- No cell has a duty after the first round. -/
theorem duties_later (g : GSem nD τ sig) : ∀ r ≥ 1, (sched B).duties g r = ∅ := fun r hr =>
  if_neg (by omega)

/-- A barrier has two turns. -/
theorem duties_bar (c : Dev nD) : (sched B).duties (bar c) 0 = {true, false} := rfl
/-- A transfer's semaphore has one turn. -/
theorem duties_xfer (c : Dev nD) (s : DmaSem sig) (hs : 8 ≤ s.val) :
    (sched B).duties ((c : Thread nD τ), .dma s) 0 = {false} := by
  unfold sched; dsimp only; rw [if_pos rfl, if_pos hs]
/-- Each turn on a barrier brings one unit. -/
theorem amount_bar (c : Dev nD) (d : Bool) : (sched B).amount (bar c) 0 d = 1 := rfl

/-- The departure semaphore of a slot of the query weights has one turn. -/
theorem duties_ssq (c : Dev nD) (h : Fin 8) : (sched B).duties (ssq c h) 0 = {false} :=
  duties_xfer B c _ (by rw [semSQ_val]; omega)
/-- The arrival semaphore of a slot of the query weights has one turn. -/
theorem duties_rsq (c : Dev nD) (h : Fin 8) : (sched B).duties (rsq c h) 0 = {false} :=
  duties_xfer B c _ (by rw [semRQ_val]; omega)
/-- The departure semaphore of a slot of the output weights has one turn. -/
theorem duties_sso (c : Dev nD) (h : Fin 8) : (sched B).duties (sso c h) 0 = {false} :=
  duties_xfer B c _ (by rw [semSO_val]; omega)
/-- The arrival semaphore of a slot of the output weights has one turn. -/
theorem duties_rso (c : Dev nD) (h : Fin 8) : (sched B).duties (rso c h) 0 = {false} :=
  duties_xfer B c _ (by rw [semRO_val]; omega)

/-- The turn on that departure semaphore brings one slot of query weights' units. -/
theorem amount_ssq (c : Dev nD) (h : Fin 8) : (sched B).amount (ssq c h) 0 false = NQ :=
  if_pos (by rw [semSQ_val]; omega)
/-- The turn on that arrival semaphore brings one slot of query weights' units. -/
theorem amount_rsq (c : Dev nD) (h : Fin 8) : (sched B).amount (rsq c h) 0 false = NQ :=
  if_pos (by rw [semRQ_val]; omega)
/-- The turn on that departure semaphore brings one slot of output weights' units. -/
theorem amount_sso (c : Dev nD) (h : Fin 8) : (sched B).amount (sso c h) 0 false = NO :=
  if_neg (by rw [semSO_val]; omega)
/-- The turn on that arrival semaphore brings one slot of output weights' units. -/
theorem amount_rso (c : Dev nD) (h : Fin 8) : (sched B).amount (rso c h) 0 false = NO :=
  if_neg (by rw [semRO_val]; omega)

/-- A barrier expects two units. -/
theorem expect_bar (c : Dev nD) : (sched B).expect (bar c) 0 = 2 := by
  unfold Schedule.expect Schedule.amountOf; rw [duties_bar]; rfl
/-- The departure semaphore of a slot of the query weights expects one slot's units. -/
theorem expect_ssq (c : Dev nD) (h : Fin 8) : (sched B).expect (ssq c h) 0 = NQ := by
  unfold Schedule.expect Schedule.amountOf; rw [duties_ssq, Finset.sum_singleton, amount_ssq]
/-- The arrival semaphore of a slot of the query weights expects one slot's units. -/
theorem expect_rsq (c : Dev nD) (h : Fin 8) : (sched B).expect (rsq c h) 0 = NQ := by
  unfold Schedule.expect Schedule.amountOf; rw [duties_rsq, Finset.sum_singleton, amount_rsq]
/-- The departure semaphore of a slot of the output weights expects one slot's units. -/
theorem expect_sso (c : Dev nD) (h : Fin 8) : (sched B).expect (sso c h) 0 = NO := by
  unfold Schedule.expect Schedule.amountOf; rw [duties_sso, Finset.sum_singleton, amount_sso]
/-- The arrival semaphore of a slot of the output weights expects one slot's units. -/
theorem expect_rso (c : Dev nD) (h : Fin 8) : (sched B).expect (rso c h) 0 = NO := by
  unfold Schedule.expect Schedule.amountOf; rw [duties_rso, Finset.sum_singleton, amount_rso]

/-- A transfer's semaphore, numbered within its array. -/
theorem payload_xfer (c : Dev nD) (s : DmaSem sig) (j : ℕ) (h : Fin 8) (d : Bool) (hs : s.val = 8 + 8 * j + h.val) :
    (sched B).payload ((c : Thread nD τ), .dma s) 0 d = carries B c j h := by
  have e1 : (s.val - 8) / 8 = j := by omega
  have e2 : Fin.ofNat 8 s.val = h := Fin.ext (by simp only [Fin.ofNat]; omega)
  show carries B c ((s.val - 8) / 8) (Fin.ofNat 8 s.val) = _
  rw [e1, e2]
/-- A departure returns the sender's half of the slot it read. -/
theorem payload_ssq (c : Dev nD) (h : Fin 8) : (sched B).payload (ssq c h) 0 false = heldQ B c h fullShare.right :=
  payload_xfer B c _ 0 h _ (by rw [semSQ_val])
/-- An arrival brings the filled slot, whole. -/
theorem payload_rsq (c : Dev nD) (h : Fin 8) : (sched B).payload (rsq c h) 0 false = heldQ B c h fullShare :=
  payload_xfer B c _ 1 h _ (by rw [semRQ_val])
/-- The same for a departure of output weights. -/
theorem payload_sso (c : Dev nD) (h : Fin 8) : (sched B).payload (sso c h) 0 false = heldO B c h fullShare.right :=
  payload_xfer B c _ 2 h _ (by rw [semSO_val])
/-- The same for an arrival of output weights. -/
theorem payload_rso (c : Dev nD) (h : Fin 8) : (sched B).payload (rso c h) 0 false = heldO B c h fullShare :=
  payload_xfer B c _ 3 h _ (by rw [semRO_val])
/-- The right neighbour's turn on a barrier carries its empty slots for every hop. -/
theorem payload_bar (c : Dev nD) :
    (sched B).payload (bar c) 0 true = bigSep Finset.univ (spare (F := F) (nxt c)) := rfl
/-- The left neighbour's turn on a barrier carries nothing. -/
theorem payload_bar' (c : Dev nD) : (sched B).payload (bar c) 0 false = iprop(emp) := rfl

/-! ## The cells, and what is known of them throughout -/

/-- The cells of the transfers, by device, kind, and hop. -/
def xcell (t : Dev nD × Fin 4 × Fin 7) : GSem nD τ sig :=
  match t.2.1 with
  | 0 => ssq t.1 t.2.2.castSucc
  | 1 => rsq t.1 t.2.2.succ
  | 2 => sso t.1 t.2.2.castSucc
  | 3 => rso t.1 t.2.2.succ

/-- The number of a transfer's semaphore within the signature. -/
theorem xcell_eq (t : Dev nD × Fin 4 × Fin 7) : ∃ s : DmaSem sig, xcell t = ((t.1 : Thread nD τ), .dma s)
    ∧ s.val = 8 + 8 * t.2.1.val + (t.2.2.val + if t.2.1.val % 2 = 0 then 0 else 1) := by
  obtain ⟨c, j, k⟩ := t
  fin_cases j
  · refine ⟨_, rfl, ?_⟩; rw [semSQ_val]; simp +arith
  · refine ⟨_, rfl, ?_⟩; rw [semRQ_val]; simp +arith
  · refine ⟨_, rfl, ?_⟩; rw [semSO_val]; simp +arith
  · refine ⟨_, rfl, ?_⟩; rw [semRO_val]; simp +arith

/-- Device, kind and hop name a transfer's cell uniquely. -/
theorem xcell_inj : Function.Injective xcell := by
  intro t t' e
  obtain ⟨s, hs, hv⟩ := xcell_eq t
  obtain ⟨s', hs', hv'⟩ := xcell_eq t'
  rw [hs, hs'] at e
  have e1 : t.1 = t'.1 := congrArg (fun g : GSem nD τ sig => g.1.1) e
  have e2 : s = s' := by
    have := (Prod.mk.inj e).2
    injection this
  rw [e2] at hv
  obtain ⟨c, j, k⟩ := t
  obtain ⟨c', j', k'⟩ := t'
  dsimp only at hv hv' e1
  have hj : j = j' ∧ k = k' := by
    have := k.isLt; have := k'.isLt
    constructor <;> apply Fin.ext <;> split_ifs at hv hv' <;> omega
  rw [e1, hj.1, hj.2]

/-- Different devices have different barriers. -/
theorem bar_inj : Function.Injective (fun c : Dev nD => bar c) := fun _ _ e =>
  congrArg (fun g : GSem nD τ sig => g.1.1) e

/-- The barriers, and the cells of the transfers. -/
def barCells : Finset (GSem nD τ sig) := Finset.univ.map ⟨fun c : Dev nD => bar c, bar_inj⟩
def xferCells : Finset (GSem nD τ sig) := Finset.univ.map ⟨xcell, xcell_inj⟩

/-- A barrier is one of the ring's cells. -/
theorem bar_mem (c : Dev nD) : bar c ∈ barCells ∪ xferCells :=
  Finset.mem_union_left _ (Finset.mem_map.2 ⟨c, Finset.mem_univ _, rfl⟩)
/-- A transfer's semaphore is one of the ring's cells. -/
theorem xcell_mem (t : Dev nD × Fin 4 × Fin 7) : xcell t ∈ barCells ∪ xferCells :=
  Finset.mem_union_right _ (Finset.mem_map.2 ⟨t, Finset.mem_univ _, rfl⟩)

/-- The invariants of all cells. -/
def ringInv (κ : GSem nD τ sig → ℕ) : sProp 𝕄 := bigSep (barCells ∪ xferCells) fun g => cellInv ER (sched B) (κ g) g

instance ringInv_persistent (κ : GSem nD τ sig → ℕ) : BI.Persistent (ringInv B κ) := by
  unfold ringInv; infer_instance

/-- What is known throughout, of one of the ring's cells. -/
theorem ringInv_elim (κ : GSem nD τ sig → ℕ) {g : GSem nD τ sig} (hg : g ∈ barCells ∪ xferCells) :
    ringInv B κ ⊢ cellInv ER (sched B) (κ g) g := bigSep_elim hg

/-- What is known throughout, of a barrier. -/
theorem ringInv_bar (κ : GSem nD τ sig → ℕ) (c : Dev nD) : ringInv B κ ⊢ cellInv ER (sched B) (κ (bar c)) (bar c) :=
  ringInv_elim B κ (bar_mem c)
/-- What is known throughout, of the departure of query weights at a hop. -/
theorem ringInv_ssq (κ : GSem nD τ sig → ℕ) (c : Dev nD) (k : Fin 7) :
    ringInv B κ ⊢ cellInv ER (sched B) (κ (ssq c k.castSucc)) (ssq c k.castSucc) := ringInv_elim B κ (xcell_mem (c, 0, k))
/-- What is known throughout, of the arrival of query weights at a hop. -/
theorem ringInv_rsq (κ : GSem nD τ sig → ℕ) (c : Dev nD) (k : Fin 7) :
    ringInv B κ ⊢ cellInv ER (sched B) (κ (rsq c k.succ)) (rsq c k.succ) := ringInv_elim B κ (xcell_mem (c, 1, k))
/-- What is known throughout, of the departure of output weights at a hop. -/
theorem ringInv_sso (κ : GSem nD τ sig → ℕ) (c : Dev nD) (k : Fin 7) :
    ringInv B κ ⊢ cellInv ER (sched B) (κ (sso c k.castSucc)) (sso c k.castSucc) := ringInv_elim B κ (xcell_mem (c, 2, k))
/-- What is known throughout, of the arrival of output weights at a hop. -/
theorem ringInv_rso (κ : GSem nD τ sig → ℕ) (c : Dev nD) (k : Fin 7) :
    ringInv B κ ⊢ cellInv ER (sched B) (κ (rso c k.succ)) (rso c k.succ) := ringInv_elim B κ (xcell_mem (c, 3, k))

/-! ## Between two hops -/

/-- What a device needs for hop `k` and has from the start: its turns on the four cells, and what lets it wait. -/
def todo (c : Dev nD) (k : Fin 7) : sProp 𝕄 :=
  iprop(dutyTok ER (ssq c k.castSucc) 0 false ∗ dutyTok ER (sso c k.castSucc) 0 false
    ∗ dutyTok ER (rsq (nxt c) k.succ) 0 false ∗ dutyTok ER (rso (nxt c) k.succ) 0 false
    ∗ reached ER (ssq c k.castSucc) 0 ∗ reached ER (sso c k.castSucc) 0
    ∗ atPos ER (ssq c k.castSucc) 0 ∅ 0 ∗ atPos ER (sso c k.castSucc) 0 ∅ 0
    ∗ atPos ER (rsq c k.succ) 0 ∅ 0 ∗ atPos ER (rso c k.succ) 0 ∅ 0
    ∗ cred (tallyAt (rsq c k.succ) () NQ) ∗ cred (tallyAt (rso c k.succ) () NO))

/-- What hop `k` leaves behind: its four semaphores at zero, and the slots it sent. -/
def spent (c : Dev nD) (k : Fin 7) : sProp 𝕄 :=
  iprop(semVal (ssq c k.castSucc) 0 ∗ semVal (sso c k.castSucc) 0 ∗ semVal (rsq c k.succ) 0 ∗ semVal (rso c k.succ) 0
    ∗ heldQ B c k.castSucc fullShare ∗ heldO B c k.castSucc fullShare)

/-- The half of the keys' and values' buffers in memory that serves one of the two local buffers. -/
abbrev half (p : Fin 2) : PosShare TreeShare := if p = 0 then fullShare.left else fullShare.right

/-- The keys and values a device fetches for hop `h`. -/
def blockK (c : Dev nD) (h : Fin 8) : Vec F S2x256x256 .f32 := (srcK c h).view.read (Elt F) (B.k c)
def blockV (c : Dev nD) (h : Fin 8) : Vec F S2x256x256 .f32 := (srcV c h).view.read (Elt F) (B.v c)

/-- Buffer `p` of the keys at rest: empty, its semaphore at zero, its half of the keys in memory whole. -/
def idleK (c : Dev nD) (p : Fin 2) : sProp 𝕄 :=
  iprop((∃ f, (slotK p).view.loc (c : Thread nD τ) ↦[(slotK p).view.set]{fullShare} f) ∗ semVal (ksm c p) 0
    ∗ ((c : Thread nD τ).loc main_v1 ↦{half p} B.k c))
def idleV (c : Dev nD) (p : Fin 2) : sProp 𝕄 :=
  iprop((∃ f, (slotV p).view.loc (c : Thread nD τ) ↦[(slotV p).view.set]{fullShare} f) ∗ semVal (vsm c p) 0
    ∗ ((c : Thread nD τ).loc main_v2 ↦{half p} B.v c))

/-- The keys of hop `h` on their way into buffer `p`. -/
def comingK (c : Dev nD) (h : Fin 8) (p : Fin 2) : sProp 𝕄 :=
  iprop((∃ fd, Flight EC (c : Thread nD τ) (.dma (semAt2 cc0_scratch4 p)) () NK
      iprop(((slotK p).view.loc (c : Thread nD τ) ↦[(slotK p).view.set]{fullShare}
          ((slotK p).view.write (Elt F) fd (ReadAs.same.apply ((srcK c h).view.read (Elt F) (B.k c))) Finset.univ))
        ∗ ((srcK c h).view.loc (c : Thread nD τ) ↦[(srcK c h).view.set]{half p} (B.k c))))
    ∗ ((srcK c h).view.loc (c : Thread nD τ) ↦[Finset.univ \ (srcK c h).view.set]{half p} (B.k c)))
def comingV (c : Dev nD) (h : Fin 8) (p : Fin 2) : sProp 𝕄 :=
  iprop((∃ fd, Flight EC (c : Thread nD τ) (.dma (semAt2 cc0_scratch5 p)) () NV
      iprop(((slotV p).view.loc (c : Thread nD τ) ↦[(slotV p).view.set]{fullShare}
          ((slotV p).view.write (Elt F) fd (ReadAs.same.apply ((srcV c h).view.read (Elt F) (B.v c))) Finset.univ))
        ∗ ((srcV c h).view.loc (c : Thread nD τ) ↦[(srcV c h).view.set]{half p} (B.v c))))
    ∗ ((srcV c h).view.loc (c : Thread nD τ) ↦[Finset.univ \ (srcV c h).view.set]{half p} (B.v c)))

/-- The keys of hop `h` arrived in buffer `p`. -/
def readyK (c : Dev nD) (h : Fin 8) (p : Fin 2) : sProp 𝕄 :=
  iprop(owns (c : Thread nD τ) (slotK p) fullShare (blockK B c h) ∗ semVal (ksm c p) 0
    ∗ ((c : Thread nD τ).loc main_v1 ↦{half p} B.k c))
def readyV (c : Dev nD) (h : Fin 8) (p : Fin 2) : sProp 𝕄 :=
  iprop(owns (c : Thread nD τ) (slotV p) fullShare (blockV B c h) ∗ semVal (vsm c p) 0
    ∗ ((c : Thread nD τ).loc main_v2 ↦{half p} B.v c))

/-- A buffer of arrived keys is at rest again once its contents are forgotten. -/
theorem readyK_idle (c : Dev nD) (h : Fin 8) (p : Fin 2) : readyK B c h p ⊢ idleK B c p := by
  unfold readyK idleK owns
  iintro ⟨⟨%f, -, H⟩, Hs, Hm⟩
  isplitl [H]; · iexists f; iexact H
  isplitl [Hs] <;> iassumption
/-- A buffer of arrived values is at rest again once its contents are forgotten. -/
theorem readyV_idle (c : Dev nD) (h : Fin 8) (p : Fin 2) : readyV B c h p ⊢ idleV B c p := by
  unfold readyV idleV owns
  iintro ⟨⟨%f, -, H⟩, Hs, Hm⟩
  isplitl [H]; · iexists f; iexact H
  isplitl [Hs] <;> iassumption

end Cert.KernelIdeal.Ring
-- ==== Proof.Ring.Reads.lean ====
module

public import proofs.«01_k».proof.Proof.Ring.Schedule
public import Idealize.ShloMosaic.Lib.Pipeline.Value
public import Idealize.ShloMosaic.Lib.ValueLayout

@[expose] public section

noncomputable section

/-! # What the body's loads read

A slot is a rectangle of an array with its unit axis dropped. A load through the array at that rectangle reads the
slot's contents, the unit axis put back; a load of one head reads the head's columns of the buffer. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Facts₀ Facts Idealize.ShloMosaic.ValueIdx

variable {F : FTy → Type} [FloatOps F]

local notation "𝕄" => MT nD τ sig Unit (Elt F) ℕ UU ℕ

/-- Running a program on device `c` ends in `Q`. -/
abbrev WP {α : Type} (c : Dev nD) (p : P F α) (Q : α → sProp 𝕄) : sProp 𝕄 :=
  wp frame (wpE (defs₀ (F := F)) Variants.none (c : Thread nD τ) none) Set.univ p Q

/-- A program followed by another is proved one after the other. -/
theorem WP_bind {α β : Type} (c : Dev nD) (p : P F α) (k : α → P F β) (Q : β → sProp 𝕄) :
    WP c (p >>= k) Q = WP c p (fun a => WP c (k a) Q) := wp_bind _ _ _ _ _ _
/-- A program that only returns meets what holds of its result. -/
theorem WP_pure {α : Type} (c : Dev nD) (a : α) (Q : α → sProp 𝕄) : Q a ⊢ WP c (pure a) Q := le_wp_ret _ _ _ _ _
/-- The same, for a return in its bare form. -/
theorem WP_ret {α : Type} (c : Dev nD) (a : α) (Q : α → sProp 𝕄) : Q a ⊢ WP c (.ret a) Q := le_wp_ret _ _ _ _ _

/-! ## The slots' element sets -/

/-- The elements of slot `h` of the query weights are those that a load of it reads. -/
theorem set_slotQ (h : Fin 8) : (slotQ h).view.set = (memQ.access (rectQ h)).set := View.set_reshape _ _
/-- The elements of slot `h` of the output weights are those that a load of it reads. -/
theorem set_slotO (h : Fin 8) : (slotO h).view.set = (memO.access (rectO h)).set := View.set_reshape _ _
/-- The elements of buffer `p` of the keys are those of an access to it. -/
theorem set_slotK (p : Fin 2) : (slotK p).view.set = (memK.access (rectP p)).set := View.set_reshape _ _
/-- The elements of buffer `p` of the values are those of an access to it. -/
theorem set_slotV (p : Fin 2) : (slotV p).view.set = (memV.access (rectP p)).set := View.set_reshape _ _

/-- A head's rectangle lies in its buffer's. -/
theorem rectH_sub (p b : Fin 2) (n : Fin 4) : (rectH p b n).set ⊆ (rectP p).set := by
  intro i hi
  rw [Rect.mem_set_unit] at hi ⊢
  intro a
  have := hi a
  fin_cases a
  · exact this
  · exact ⟨Nat.zero_le _, (i 1).isLt⟩
  · exact ⟨Nat.zero_le _, (i 2).isLt⟩
  · exact ⟨Nat.zero_le _, (i 3).isLt⟩

/-- One head's keys lie within their buffer. -/
theorem head_sub_slotK (p b : Fin 2) (n : Fin 4) : (memK.access (rectH p b n)).set ⊆ (slotK p).view.set := by
  rw [set_slotK, View.set_slice, View.set_slice]
  exact Finset.map_subset_map.mpr (rectH_sub p b n)
/-- One head's values lie within their buffer. -/
theorem head_sub_slotV (p b : Fin 2) (n : Fin 4) : (memV.access (rectH p b n)).set ⊆ (slotV p).view.set := by
  rw [set_slotV, View.set_slice, View.set_slice]
  exact Finset.map_subset_map.mpr (rectH_sub p b n)

/-! ## What is read -/

/-- Weights with the unit axis put back. -/
abbrev padQ (X : Vec F S512x256 .bf16) : Vec F S1x512x256 .bf16 := shapeCast S1x512x256 X Facts₀.shapeCasts_S512x256_S1x512x256
abbrev padO (X : Vec F S256x512 .bf16) : Vec F S1x256x512 .bf16 := shapeCast S1x256x512 X Facts₀.shapeCasts_S256x512_S1x256x512

/-- One batch row's head of a buffer of keys or values. -/
def headOf (X : Vec F S2x256x256 .f32) (b : Fin 2) (n : Fin 4) : Vec F S1x1x256x64 .f32 := fun i =>
  X (ix3 b ⟨(i 2).val, (i 2).isLt⟩ ⟨64 * n.val + (i 3).val, by have h3 : (i 3).val < 64 := (i 3).isLt; have := n.isLt; omega⟩)

/-- A load of slot `h` of the query weights reads its contents, with a leading axis of size one. -/
theorem read_rectQ (h : Fin 8) (f : memQ.view.ty.Contents (Elt F)) :
    (memQ.access (rectQ h)).read (Elt F) f = padQ ((slotQ h).view.read (Elt F) f) :=
  (shapeCast_shapeCast ((memQ.access (rectQ h)).read (Elt F) f) Facts₀.shapeCasts_S1x512x256_S512x256
    Facts₀.shapeCasts_S512x256_S1x512x256).symm
/-- A load of slot `h` of the output weights reads its contents, with a leading axis of size one. -/
theorem read_rectO (h : Fin 8) (f : memO.view.ty.Contents (Elt F)) :
    (memO.access (rectO h)).read (Elt F) f = padO ((slotO h).view.read (Elt F) f) :=
  (shapeCast_shapeCast ((memO.access (rectO h)).read (Elt F) f) Facts₀.shapeCasts_S1x256x512_S256x512
    Facts₀.shapeCasts_S256x512_S1x256x512).symm

/-- Where a head's element lies within its buffer. -/
theorem rectH_emb (p b : Fin 2) (n : Fin 4) (i : S1x1x256x64.Idx) :
    (rectH p b n).emb i = (rectP p).emb (ix4 (0 : Fin 1) b ⟨(i 2).val, (i 2).isLt⟩
      ⟨64 * n.val + (i 3).val, by have h3 : (i 3).val < 64 := (i 3).isLt; have := n.isLt; omega⟩) := by
  funext a
  apply Fin.ext
  have h0 : (i 0).val = 0 := by have : (i 0).val < 1 := (i 0).isLt; omega
  have h1 : (i 1).val = 0 := by have : (i 1).val < 1 := (i 1).isLt; omega
  rw [Rect.emb_apply, Rect.emb_apply]
  fin_cases a
  · show p.val + 1 * (i 0).val = p.val + 1 * 0; rw [h0]
  · show b.val + 1 * (i 1).val = 0 + 1 * b.val; rw [h1]; omega
  · show 0 + 1 * (i 2).val = 0 + 1 * (i 2).val; rfl
  · show 64 * n.val + 1 * (i 3).val = 0 + 1 * (64 * n.val + (i 3).val); omega

/-- A load of one head's keys reads that head's part of the buffer's contents. -/
theorem read_rectHK (p b : Fin 2) (n : Fin 4) (f : memK.view.ty.Contents (Elt F)) :
    (memK.access (rectH p b n)).read (Elt F) f = headOf ((slotK p).view.read (Elt F) f) b n := by
  funext i
  have h1 : (memK.access (rectH p b n)).read (Elt F) f i = memK.view.read (Elt F) f ((rectH p b n).emb i) := rfl
  rw [h1, rectH_emb]
  unfold headOf
  exact (shapeCast_1abc_abc_apply ((memK.access (rectP p)).read (Elt F) f) Facts₀.squeezes_S1x2x256x256_S2x256x256.numel_eq b _ _).symm
/-- A load of one head's values reads that head's part of the buffer's contents. -/
theorem read_rectHV (p b : Fin 2) (n : Fin 4) (f : memV.view.ty.Contents (Elt F)) :
    (memV.access (rectH p b n)).read (Elt F) f = headOf ((slotV p).view.read (Elt F) f) b n := by
  funext i
  have h1 : (memV.access (rectH p b n)).read (Elt F) f i = memV.view.read (Elt F) f ((rectH p b n).emb i) := rfl
  rw [h1, rectH_emb]
  unfold headOf
  exact (shapeCast_1abc_abc_apply ((memV.access (rectP p)).read (Elt F) f) Facts₀.squeezes_S1x2x256x256_S2x256x256.numel_eq b _ _).symm

/-! ## The loads -/

section Loads

variable {α : Type} (c : Dev nD) {q : PosShare TreeShare}

/-- A load of a slot of the query weights. -/
theorem wp_loadQ (h : Fin 8) {X : Vec F S512x256 .bf16} {hl}
    {k : Vec F S1x512x256 .bf16 → P F α} {Q : α → sProp 𝕄} :
    owns (c : Thread nD τ) (slotQ h) q X ⊢ iprop((owns (c : Thread nD τ) (slotQ h) q X -∗ WP c (k (padQ X)) Q)
      -∗ WP c (.op (.load memQ (rectQ h).toLoadRect hl) k) Q) := by
  unfold owns
  iintro ⟨%f, %hf, H⟩ Hk
  iapply (wp_load_rect (defs := defs₀ (F := F)) Variants.none (c : Thread nD τ) none Set.univ (m := memQ) (r := rectQ h)
    (S := (slotQ h).view.set) (f := f) (set_slotQ h).ge) $$ H
  iintro H
  rw [read_rectQ, hf]
  iapply Hk
  iexists f; isplitr; · ipureintro; exact hf
  iexact H
/-- Loading slot `h` of the output weights returns its contents and leaves it as it was. -/
theorem wp_loadO (h : Fin 8) {X : Vec F S256x512 .bf16} {hl}
    {k : Vec F S1x256x512 .bf16 → P F α} {Q : α → sProp 𝕄} :
    owns (c : Thread nD τ) (slotO h) q X ⊢ iprop((owns (c : Thread nD τ) (slotO h) q X -∗ WP c (k (padO X)) Q)
      -∗ WP c (.op (.load memO (rectO h).toLoadRect hl) k) Q) := by
  unfold owns
  iintro ⟨%f, %hf, H⟩ Hk
  iapply (wp_load_rect (defs := defs₀ (F := F)) Variants.none (c : Thread nD τ) none Set.univ (m := memO) (r := rectO h)
    (S := (slotO h).view.set) (f := f) (set_slotO h).ge) $$ H
  iintro H
  rw [read_rectO, hf]
  iapply Hk
  iexists f; isplitr; · ipureintro; exact hf
  iexact H

/-- A load of a head of keys. -/
theorem wp_loadK (p b : Fin 2) (n : Fin 4) {X : Vec F S2x256x256 .f32} {hl}
    {k : Vec F S1x1x256x64 .f32 → P F α} {Q : α → sProp 𝕄} :
    owns (c : Thread nD τ) (slotK p) q X ⊢ iprop((owns (c : Thread nD τ) (slotK p) q X -∗ WP c (k (headOf X b n)) Q)
      -∗ WP c (.op (.load memK (rectH p b n).toLoadRect hl) k) Q) := by
  unfold owns
  iintro ⟨%f, %hf, H⟩ Hk
  iapply (wp_load_rect (defs := defs₀ (F := F)) Variants.none (c : Thread nD τ) none Set.univ (m := memK) (r := rectH p b n)
    (S := (slotK p).view.set) (f := f) (head_sub_slotK p b n)) $$ H
  iintro H
  rw [read_rectHK, hf]
  iapply Hk
  iexists f; isplitr; · ipureintro; exact hf
  iexact H
/-- Loading one head's values returns that head's part of the buffer and leaves it as it was. -/
theorem wp_loadV (p b : Fin 2) (n : Fin 4) {X : Vec F S2x256x256 .f32} {hl}
    {k : Vec F S1x1x256x64 .f32 → P F α} {Q : α → sProp 𝕄} :
    owns (c : Thread nD τ) (slotV p) q X ⊢ iprop((owns (c : Thread nD τ) (slotV p) q X -∗ WP c (k (headOf X b n)) Q)
      -∗ WP c (.op (.load memV (rectH p b n).toLoadRect hl) k) Q) := by
  unfold owns
  iintro ⟨%f, %hf, H⟩ Hk
  iapply (wp_load_rect (defs := defs₀ (F := F)) Variants.none (c : Thread nD τ) none Set.univ (m := memV) (r := rectH p b n)
    (S := (slotV p).view.set) (f := f) (head_sub_slotV p b n)) $$ H
  iintro H
  rw [read_rectHV, hf]
  iapply Hk
  iexists f; isplitr; · ipureintro; exact hf
  iexact H

/-- Loading one head's keys and values. -/
theorem wp_loadHead (p b : Fin 2) (n : Fin 4) {X Y : Vec F S2x256x256 .f32}
    {Q : Vec F S1x1x256x64 .f32 × Vec F S1x1x256x64 .f32 → sProp 𝕄} :
    iprop(owns (c : Thread nD τ) (slotK p) fullShare X ∗ owns (c : Thread nD τ) (slotV p) fullShare Y)
      ⊢ iprop((iprop(owns (c : Thread nD τ) (slotK p) fullShare X ∗ owns (c : Thread nD τ) (slotV p) fullShare Y)
          -∗ Q (headOf X b n, headOf Y b n)) -∗ WP c (loadHead p b n) Q) := by
  iintro ⟨HK, HV⟩ Hk
  unfold loadHead
  simp only [Prog.bind_lift]
  iapply (wp_loadK c p b n) $$ HK
  iintro HK
  iapply (wp_loadV c p b n) $$ HV
  iintro HV
  iapply (WP_pure (F := F))
  iapply Hk
  isplitl [HK] <;> iassumption

/-- What a block adds to the accumulator, from the weights, keys and values of its buffers. -/
def step (x : Vec F S2x256x512 .f32) (wq : Vec F S512x256 .bf16) (wo : Vec F S256x512 .bf16)
    (X Y : Vec F S2x256x256 .f32) (acc : FVec F S512x512 .f32) : FVec F S512x512 .f32 :=
  chunk x (padQ wq) (padO wo) (headOf X 0 0, headOf Y 0 0) (headOf X 0 1, headOf Y 0 1) (headOf X 0 2, headOf Y 0 2)
    (headOf X 0 3, headOf Y 0 3) (headOf X 1 0, headOf Y 1 0) (headOf X 1 1, headOf Y 1 1) (headOf X 1 2, headOf Y 1 2)
    (headOf X 1 3, headOf Y 1 3) acc

/-- Computing a block. -/
theorem wp_comp (x : Vec F S2x256x512 .f32) (h : Fin 8) (p : Fin 2) (acc : FVec F S512x512 .f32) {q' : PosShare TreeShare}
    {wq : Vec F S512x256 .bf16} {wo : Vec F S256x512 .bf16} {X Y : Vec F S2x256x256 .f32}
    {Q : FVec F S512x512 .f32 → sProp 𝕄} :
    iprop(owns (c : Thread nD τ) (slotQ h) q wq ∗ owns (c : Thread nD τ) (slotO h) q' wo
        ∗ owns (c : Thread nD τ) (slotK p) fullShare X ∗ owns (c : Thread nD τ) (slotV p) fullShare Y)
      ⊢ iprop((iprop(owns (c : Thread nD τ) (slotQ h) q wq ∗ owns (c : Thread nD τ) (slotO h) q' wo
          ∗ owns (c : Thread nD τ) (slotK p) fullShare X ∗ owns (c : Thread nD τ) (slotV p) fullShare Y)
          -∗ Q (step x wq wo X Y acc)) -∗ WP c (comp x h p acc) Q) := by
  iintro ⟨HQ, HO, HKV⟩ Hk
  unfold comp
  simp only [Prog.bind_lift]
  iapply (wp_loadQ c h) $$ HQ
  iintro HQ
  iapply (wp_loadO c h) $$ HO
  iintro HO
  rw [WP_bind]; iapply (wp_loadHead c p 0 0) $$ HKV; iintro HKV
  rw [WP_bind]; iapply (wp_loadHead c p 0 1) $$ HKV; iintro HKV
  rw [WP_bind]; iapply (wp_loadHead c p 0 2) $$ HKV; iintro HKV
  rw [WP_bind]; iapply (wp_loadHead c p 0 3) $$ HKV; iintro HKV
  rw [WP_bind]; iapply (wp_loadHead c p 1 0) $$ HKV; iintro HKV
  rw [WP_bind]; iapply (wp_loadHead c p 1 1) $$ HKV; iintro HKV
  rw [WP_bind]; iapply (wp_loadHead c p 1 2) $$ HKV; iintro HKV
  rw [WP_bind]; iapply (wp_loadHead c p 1 3) $$ HKV; iintro ⟨HK, HV⟩
  iapply (WP_pure (F := F))
  unfold step
  iapply Hk
  isplitl [HQ]; · iexact HQ
  isplitl [HO]; · iexact HO
  isplitl [HK] <;> iassumption

end Loads

end Cert.KernelIdeal.Ring
-- ==== Proof.Ring.Copies.lean ====
module

public import proofs.«01_k».proof.Proof.Ring.Reads

@[expose] public section

noncomputable section

/-! # The body's copies, each as a step

Fetching a block of keys or values into one of the two local buffers, and waiting for it; sending a slot of weights to
the right neighbour, and waiting until it has left and the left neighbour's slot has arrived. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Facts₀ Facts Idealize.ShloMosaic.ValueIdx

variable {F : FTy → Type} [FloatOps F]

local notation "𝕄" => MT nD τ sig Unit (Elt F) ℕ UU ℕ

variable (B : Blocks F) (κ : GSem nD τ sig → ℕ) (c : Dev nD)

/-! ## Local copies -/

/-- Starting the copy of the keys of hop `h` into a buffer at rest. -/
theorem wp_fetchK (h : Fin 8) (p : Fin 2) {Q : PUnit → sProp 𝕄} :
    idleK B c p ⊢ iprop((comingK B c h p -∗ Q ⟨⟩) -∗ WP c (fetchK c h p) Q) := by
  unfold idleK comingK fetchK
  iintro ⟨⟨%fd, Hd⟩, Hs, Hm⟩ Hk
  ihave Hm := (pointsTo_split_subset (Finset.subset_univ ((srcK c h).view.set))).1 $$ Hm
  icases Hm with ⟨Hm, Hr⟩
  iapply (wp_dmaLocal EC (defs := defs₀ (F := F)) Variants.none (c : Thread nD τ) none (src := srcK c h) (dst := slotK p)
    (sm := .dma (semAt2 cc0_scratch4 p))
    (q := half p) (fs := B.k c) (Sd := (slotK p).view.set) (fd := fd) () NK (NK_eq p) NK_pos subset_rfl) $$ [Hd Hs Hm]
  · isplitl [Hm]; · iexact Hm
    isplitl [Hd] <;> iassumption
  iintro Hf
  iapply (WP_ret (F := F))
  iapply Hk
  isplitl [Hf]; · iexists fd; iexact Hf
  iexact Hr
/-- Starting the copy of the values of hop `h` into a buffer at rest. -/
theorem wp_fetchV (h : Fin 8) (p : Fin 2) {Q : PUnit → sProp 𝕄} :
    idleV B c p ⊢ iprop((comingV B c h p -∗ Q ⟨⟩) -∗ WP c (fetchV c h p) Q) := by
  unfold idleV comingV fetchV
  iintro ⟨⟨%fd, Hd⟩, Hs, Hm⟩ Hk
  ihave Hm := (pointsTo_split_subset (Finset.subset_univ ((srcV c h).view.set))).1 $$ Hm
  icases Hm with ⟨Hm, Hr⟩
  iapply (wp_dmaLocal EC (defs := defs₀ (F := F)) Variants.none (c : Thread nD τ) none (src := srcV c h) (dst := slotV p)
    (sm := .dma (semAt2 cc0_scratch5 p))
    (q := half p) (fs := B.v c) (Sd := (slotV p).view.set) (fd := fd) () NV (NV_eq p) NV_pos subset_rfl) $$ [Hd Hs Hm]
  · isplitl [Hm]; · iexact Hm
    isplitl [Hd] <;> iassumption
  iintro Hf
  iapply (WP_ret (F := F))
  iapply Hk
  isplitl [Hf]; · iexists fd; iexact Hf
  iexact Hr

/-- Whatever a device owes, it may wait for its own fetches. -/
theorem wp_waitK (h : Fin 8) (p : Fin 2) (n : ℕ) (W : Waits sig Unit) {Q : PUnit → sProp 𝕄} :
    iprop(levAts L lv ∗ comingK B c h p ∗ owes (c : Thread nD τ) (dues c n) W)
      ⊢ iprop((iprop(readyK B c h p ∗ ∃ W, owes (c : Thread nD τ) (dues c n) W) -∗ Q ⟨⟩) -∗ WP c (waitK p) Q) := by
  unfold comingK readyK waitK
  iintro ⟨Hlev, ⟨⟨%fd, Hf⟩, Hr⟩, HO⟩ Hk
  ihave Hmw := (mayWait_dues (F := F) c (.dma (semAt2 cc0_scratch4 p)) n ((lv_ksm c p).le.trans (Nat.zero_le _))) $$ Hlev
  iapply (wp_waitLocalO EC (defs := defs₀ (F := F)) Variants.none (c : Thread nD τ) none () (NK_eq p)) $$ [Hf HO Hmw]
  · isplitl [Hf]; · iexact Hf
    isplitl [HO] <;> iassumption
  iintro ⟨⟨Hd, Hm⟩, Hs, HO⟩
  iapply (WP_ret (F := F))
  iapply Hk
  isplitr [HO]; swap; · iexists _; iexact HO
  isplitl [Hd]
  · ihave H := (owns_intro (c : Thread nD τ) (slotK p) fullShare _) $$ Hd
    rw [View.read_write_univ]
    iexact H
  isplitl [Hs]; · iexact Hs
  iapply (pointsTo_split_subset (Finset.subset_univ ((srcK c h).view.set))).2
  isplitl [Hm] <;> iassumption
/-- Waiting for the values of hop `h`: they have arrived, and what is owed is unchanged. -/
theorem wp_waitV (h : Fin 8) (p : Fin 2) (n : ℕ) (W : Waits sig Unit) {Q : PUnit → sProp 𝕄} :
    iprop(levAts L lv ∗ comingV B c h p ∗ owes (c : Thread nD τ) (dues c n) W)
      ⊢ iprop((iprop(readyV B c h p ∗ ∃ W, owes (c : Thread nD τ) (dues c n) W) -∗ Q ⟨⟩) -∗ WP c (waitV p) Q) := by
  unfold comingV readyV waitV
  iintro ⟨Hlev, ⟨⟨%fd, Hf⟩, Hr⟩, HO⟩ Hk
  ihave Hmw := (mayWait_dues (F := F) c (.dma (semAt2 cc0_scratch5 p)) n ((lv_vsm c p).le.trans (Nat.zero_le _))) $$ Hlev
  iapply (wp_waitLocalO EC (defs := defs₀ (F := F)) Variants.none (c : Thread nD τ) none () (NV_eq p)) $$ [Hf HO Hmw]
  · isplitl [Hf]; · iexact Hf
    isplitl [HO] <;> iassumption
  iintro ⟨⟨Hd, Hm⟩, Hs, HO⟩
  iapply (WP_ret (F := F))
  iapply Hk
  isplitr [HO]; swap; · iexists _; iexact HO
  isplitl [Hd]
  · ihave H := (owns_intro (c : Thread nD τ) (slotV p) fullShare _) $$ Hd
    rw [View.read_write_univ]
    iexact H
  isplitl [Hs]; · iexact Hs
  iapply (pointsTo_split_subset (Finset.subset_univ ((srcV c h).view.set))).2
  isplitl [Hm] <;> iassumption

/-! ## The ring's transfers -/

/-- Sending a slot of query weights lends half of it until it has left. -/
theorem wp_sendQ (r : Dev nD) (hr : r = nxt c) (k : Fin 7) (O : CellTallies nD τ sig Unit) (W : Waits sig Unit)
    {Q : PUnit → sProp 𝕄} :
    iprop(ringInv B κ ∗ heldQ B c k.castSucc fullShare ∗ freeQ (F := F) (nxt c) k.succ
        ∗ owes (c : Thread nD τ) (O + tallyAt (rsq (nxt c) k.succ) () NQ) W
        ∗ dutyTok ER (ssq c k.castSucc) 0 false ∗ reached ER (ssq c k.castSucc) 0
        ∗ dutyTok ER (rsq (nxt c) k.succ) 0 false ∗ reached ER (rsq (nxt c) k.succ) 0)
      ⊢ iprop((iprop(heldQ B c k.castSucc fullShare.left ∗ cred (tallyAt (ssq c k.castSucc) () NQ) ∗ owes (c : Thread nD τ) O W)
          -∗ Q ⟨⟩) -∗ WP c (sendQ r k.castSucc k.succ) Q) := by
  subst hr
  unfold sendQ freeQ
  iintro ⟨#Hinv, Hsrc, ⟨%fd, Hd⟩, HO, Ht1, Hr1, Ht2, Hr2⟩ Hk
  ihave #Hi1 := (ringInv_ssq B κ c k) $$ Hinv
  ihave #Hi2 := (ringInv_rsq B κ (nxt c) k) $$ Hinv
  unfold heldQ
  ihave Hsrc := (owns_halves (c : Thread nD τ) (slotQ k.castSucc) fullShare _).1 $$ Hsrc
  icases Hsrc with ⟨Hl, Hrt⟩
  unfold owns
  icases Hrt with ⟨%fs, %hfs, Hrt⟩
  iapply (wp_send_pointsTo (defs := defs₀ (F := F)) Variants.none ER (sched B) (c : Thread nD τ) none
    (src := slotQ k.castSucc) (dst := slotQ k.succ) (c' := (nxt c : Thread nD τ))
    (sS := .dma (semAt8 cc0_scratch6 k.castSucc)) (sem := .dma (semAt8 cc0_scratch7 k.succ))
    (q := fullShare.right) (fs := fs) (fd := fd) (r₁ := 0) (r₂ := 0) (d₁ := false) (d₂ := false)
    (κ₁ := κ (ssq c k.castSucc)) (κ₂ := κ (rsq (nxt c) k.succ))
    (by rw [duties_ssq]; exact Finset.mem_singleton_self _) (by rw [duties_rsq]; exact Finset.mem_singleton_self _)
    () () NQ (NQ_eq _) (amount_ssq B c _) (amount_rsq B (nxt c) _) O rfl
    (by rw [payload_ssq]; unfold heldQ owns; iintro H; iexists fs; isplitr; · ipureintro; exact hfs
        iexact H)
    (by rw [payload_rsq]; unfold heldQ owns; iintro H; iexists _; isplitr; swap; · iexact H
        ipureintro; rw [View.read_write_univ, hfs, back_nxt c k.castSucc k.succ (by simp)])) $$ [Hrt Hd HO Ht1 Hr1 Ht2 Hr2]
  · isplitr; · iexact Hi1
    isplitr; · iexact Hi2
    isplitl [Hrt]; · iexact Hrt
    isplitl [Hd]; · iexact Hd
    isplitl [HO]; · iexact HO
    isplitl [Ht1]; · iexact Ht1
    isplitl [Hr1]; · iexact Hr1
    isplitl [Ht2] <;> iassumption
  iintro ⟨Hc, HO⟩
  iapply (WP_ret (F := F))
  iapply Hk
  isplitl [Hl]; · iexact Hl
  isplitl [Hc] <;> iassumption

/-- The same of the output weights. -/
theorem wp_sendO (r : Dev nD) (hr : r = nxt c) (k : Fin 7) (O : CellTallies nD τ sig Unit) (W : Waits sig Unit)
    {Q : PUnit → sProp 𝕄} :
    iprop(ringInv B κ ∗ heldO B c k.castSucc fullShare ∗ freeO (F := F) (nxt c) k.succ
        ∗ owes (c : Thread nD τ) (O + tallyAt (rso (nxt c) k.succ) () NO) W
        ∗ dutyTok ER (sso c k.castSucc) 0 false ∗ reached ER (sso c k.castSucc) 0
        ∗ dutyTok ER (rso (nxt c) k.succ) 0 false ∗ reached ER (rso (nxt c) k.succ) 0)
      ⊢ iprop((iprop(heldO B c k.castSucc fullShare.left ∗ cred (tallyAt (sso c k.castSucc) () NO) ∗ owes (c : Thread nD τ) O W)
          -∗ Q ⟨⟩) -∗ WP c (sendO r k.castSucc k.succ) Q) := by
  subst hr
  unfold sendO freeO
  iintro ⟨#Hinv, Hsrc, ⟨%fd, Hd⟩, HO, Ht1, Hr1, Ht2, Hr2⟩ Hk
  ihave #Hi1 := (ringInv_sso B κ c k) $$ Hinv
  ihave #Hi2 := (ringInv_rso B κ (nxt c) k) $$ Hinv
  unfold heldO
  ihave Hsrc := (owns_halves (c : Thread nD τ) (slotO k.castSucc) fullShare _).1 $$ Hsrc
  icases Hsrc with ⟨Hl, Hrt⟩
  unfold owns
  icases Hrt with ⟨%fs, %hfs, Hrt⟩
  iapply (wp_send_pointsTo (defs := defs₀ (F := F)) Variants.none ER (sched B) (c : Thread nD τ) none
    (src := slotO k.castSucc) (dst := slotO k.succ) (c' := (nxt c : Thread nD τ))
    (sS := .dma (semAt8 cc0_scratch8 k.castSucc)) (sem := .dma (semAt8 cc0_scratch9 k.succ))
    (q := fullShare.right) (fs := fs) (fd := fd) (r₁ := 0) (r₂ := 0) (d₁ := false) (d₂ := false)
    (κ₁ := κ (sso c k.castSucc)) (κ₂ := κ (rso (nxt c) k.succ))
    (by rw [duties_sso]; exact Finset.mem_singleton_self _) (by rw [duties_rso]; exact Finset.mem_singleton_self _)
    () () NO (NO_eq _) (amount_sso B c _) (amount_rso B (nxt c) _) O rfl
    (by rw [payload_sso]; unfold heldO owns; iintro H; iexists fs; isplitr; · ipureintro; exact hfs
        iexact H)
    (by rw [payload_rso]; unfold heldO owns; iintro H; iexists _; isplitr; swap; · iexact H
        ipureintro; rw [View.read_write_univ, hfs, back_nxt c k.castSucc k.succ (by simp)])) $$ [Hrt Hd HO Ht1 Hr1 Ht2 Hr2]
  · isplitr; · iexact Hi1
    isplitr; · iexact Hi2
    isplitl [Hrt]; · iexact Hrt
    isplitl [Hd]; · iexact Hd
    isplitl [HO]; · iexact HO
    isplitl [Ht1]; · iexact Ht1
    isplitl [Hr1]; · iexact Hr1
    isplitl [Ht2] <;> iassumption
  iintro ⟨Hc, HO⟩
  iapply (WP_ret (F := F))
  iapply Hk
  isplitl [Hl]; · iexact Hl
  isplitl [Hc] <;> iassumption

/-- A cell whose one round is over gives its counter back at zero. -/
theorem close_cell (g : GSem nD τ sig) (hg : g ∈ barCells ∪ xferCells) :
    iprop(ringInv B κ ∗ atPos ER g 1 ∅ 0) ⊢ iprop(|={Set.univ}=> semVal g 0) :=
  (sep_mono_left (ringInv_elim B κ hg)).trans
    (cell_close ER (sched B) (Set.mem_univ _) (fun h => h) fun r hr => duties_later B g r hr)

/-- A wait for the one transfer of a cell: it brings what the transfer carries, and the counter comes back at zero. -/
theorem wp_waitCell (s : DmaSem sig) (hg : ((c : Thread nD τ), SemLoc.dma s) ∈ barCells ∪ xferCells) (N n : ℕ)
    (hs : (sched B).duties ((c : Thread nD τ), .dma s) 0 = {false})
    (hN : (sched B).expect ((c : Thread nD τ), .dma s) 0 = N) (hl : lv ((c : Thread nD τ), .dma s) () ≤ n + 1)
    {sp sp' : Space} {S S' : Shape} {e e' : EltTy} {src : Memref sig .tc sp S e} {dst : Memref sig .tc sp' S' e'}
    {hx : src.view.WordExact} {hy : dst.view.WordExact} (hd : dst.view.dmaCredit = N) {α : Type} {k : PUnit → P F α}
    {Q : α → sProp 𝕄} :
    iprop(ringInv B κ ∗ levAts L lv ∗ cred (tallyAt ((c : Thread nD τ), .dma s) () N)
        ∗ (∃ W, owes (c : Thread nD τ) (dues c n) W) ∗ atPos ER ((c : Thread nD τ), .dma s) 0 ∅ 0)
      ⊢ iprop((iprop((∃ W, owes (c : Thread nD τ) (dues c n) W) ∗ semVal ((c : Thread nD τ), .dma s) 0
            ∗ (sched B).payload ((c : Thread nD τ), .dma s) 0 false) -∗ WP c (k ⟨⟩) Q)
        -∗ WP c (.op (.waitDma2 s src dst hx hy) k) Q) := by
  iintro ⟨#Hinv, Hlev, Hc, ⟨%W, HO⟩, Hat⟩ Hk
  ihave Hmw := (mayWait_dues (F := F) c (.dma s) n hl) $$ Hlev
  ihave #Hi := (ringInv_elim B κ hg) $$ Hinv
  iapply (wp_wait_rest_token (defs := defs₀ (F := F)) Variants.none ER (sched B) (c : Thread nD τ) none
    (wpE_waitDma2_eq Variants.none (c : Thread nD τ) none Set.univ) (Set.mem_univ (κ ((c : Thread nD τ), .dma s))) ()
    (R := 0) (T := ∅) (m := 0) ((Nat.zero_add _).trans (hd.trans hN.symm))) $$ [Hc HO Hmw Hat]
  · isplitr; · iexact Hi
    isplitl [Hc]; · rw [hd]; iexact Hc
    isplitl [HO]; · iexact HO
    isplitl [Hmw] <;> iassumption
  rw [Finset.sdiff_empty, hs, bigSep_singleton]
  iintro ⟨HO, Hat, -, Hp⟩
  imod (close_cell B κ _ hg) $$ [Hat] with Hv
  · isplitr; · iexact Hinv
    iexact Hat
  iapply Hk
  isplitl [HO]; · iexists _; iexact HO
  isplitl [Hv] <;> iassumption

/-- The two waits of a hop for the query weights: the slot sent comes back whole, the next slot is full. -/
theorem wp_waitQ (k : Fin 7) {Q : PUnit → sProp 𝕄} :
    iprop(ringInv B κ ∗ levAts L lv ∗ (∃ W, owes (c : Thread nD τ) (dues c (k.val + 1)) W)
        ∗ heldQ B c k.castSucc fullShare.left
        ∗ cred (tallyAt (ssq c k.castSucc) () NQ) ∗ atPos ER (ssq c k.castSucc) 0 ∅ 0
        ∗ cred (tallyAt (rsq c k.succ) () NQ) ∗ atPos ER (rsq c k.succ) 0 ∅ 0)
      ⊢ iprop((iprop((∃ W, owes (c : Thread nD τ) (dues c (k.val + 1)) W)
            ∗ semVal (ssq c k.castSucc) 0 ∗ semVal (rsq c k.succ) 0
            ∗ heldQ B c k.castSucc fullShare ∗ heldQ B c k.succ fullShare) -∗ Q ⟨⟩)
        -∗ WP c (waitQ k.castSucc k.succ) Q) := by
  iintro ⟨#Hinv, #Hlev, HO, Hl, Hc1, Hp1, Hc2, Hp2⟩ Hk
  unfold waitQ
  simp only [Prog.bind_lift]
  iapply (wp_waitCell B κ c (semAt8 cc0_scratch6 k.castSucc) (xcell_mem (c, 0, k)) NQ (k.val + 1) (duties_ssq B c _)
    (expect_ssq B c _) ((lv_ssq c _).le.trans (Nat.zero_le _)) (NQ_eq _)) $$ [HO Hc1 Hp1]
  · isplitr; · iexact Hinv
    isplitr; · iexact Hlev
    isplitl [Hc1]; · iexact Hc1
    isplitl [HO] <;> iassumption
  rw [payload_ssq]
  iintro ⟨HO, Hv1, Hr⟩
  iapply (wp_waitCell B κ c (semAt8 cc0_scratch7 k.succ) (xcell_mem (c, 1, k)) NQ (k.val + 1) (duties_rsq B c _)
    (expect_rsq B c _) ((lv_rsq c _).le.trans (by simp)) (NQ_eq _)) $$ [HO Hc2 Hp2]
  · isplitr; · iexact Hinv
    isplitr; · iexact Hlev
    isplitl [Hc2]; · iexact Hc2
    isplitl [HO] <;> iassumption
  rw [payload_rsq]
  iintro ⟨HO, Hv2, Hn⟩
  iapply (WP_ret (F := F))
  iapply Hk
  isplitl [HO]; · iexact HO
  isplitl [Hv1]; · iexact Hv1
  isplitl [Hv2]; · iexact Hv2
  isplitr [Hn]; swap; · iexact Hn
  unfold heldQ
  iapply (owns_halves (c : Thread nD τ) (slotQ k.castSucc) fullShare _).2
  isplitl [Hl] <;> iassumption

/-- The same for the output weights. -/
theorem wp_waitO (k : Fin 7) {Q : PUnit → sProp 𝕄} :
    iprop(ringInv B κ ∗ levAts L lv ∗ (∃ W, owes (c : Thread nD τ) (dues c (k.val + 1)) W)
        ∗ heldO B c k.castSucc fullShare.left
        ∗ cred (tallyAt (sso c k.castSucc) () NO) ∗ atPos ER (sso c k.castSucc) 0 ∅ 0
        ∗ cred (tallyAt (rso c k.succ) () NO) ∗ atPos ER (rso c k.succ) 0 ∅ 0)
      ⊢ iprop((iprop((∃ W, owes (c : Thread nD τ) (dues c (k.val + 1)) W)
            ∗ semVal (sso c k.castSucc) 0 ∗ semVal (rso c k.succ) 0
            ∗ heldO B c k.castSucc fullShare ∗ heldO B c k.succ fullShare) -∗ Q ⟨⟩)
        -∗ WP c (waitO k.castSucc k.succ) Q) := by
  iintro ⟨#Hinv, #Hlev, HO, Hl, Hc1, Hp1, Hc2, Hp2⟩ Hk
  unfold waitO
  simp only [Prog.bind_lift]
  iapply (wp_waitCell B κ c (semAt8 cc0_scratch8 k.castSucc) (xcell_mem (c, 2, k)) NO (k.val + 1) (duties_sso B c _)
    (expect_sso B c _) ((lv_sso c _).le.trans (Nat.zero_le _)) (NO_eq _)) $$ [HO Hc1 Hp1]
  · isplitr; · iexact Hinv
    isplitr; · iexact Hlev
    isplitl [Hc1]; · iexact Hc1
    isplitl [HO] <;> iassumption
  rw [payload_sso]
  iintro ⟨HO, Hv1, Hr⟩
  iapply (wp_waitCell B κ c (semAt8 cc0_scratch9 k.succ) (xcell_mem (c, 3, k)) NO (k.val + 1) (duties_rso B c _)
    (expect_rso B c _) ((lv_rso c _).le.trans (by simp)) (NO_eq _)) $$ [HO Hc2 Hp2]
  · isplitr; · iexact Hinv
    isplitr; · iexact Hlev
    isplitl [Hc2]; · iexact Hc2
    isplitl [HO] <;> iassumption
  rw [payload_rso]
  iintro ⟨HO, Hv2, Hn⟩
  iapply (WP_ret (F := F))
  iapply Hk
  isplitl [HO]; · iexact HO
  isplitl [Hv1]; · iexact Hv1
  isplitl [Hv2]; · iexact Hv2
  isplitr [Hn]; swap; · iexact Hn
  unfold heldO
  iapply (owns_halves (c : Thread nD τ) (slotO k.castSucc) fullShare _).2
  isplitl [Hl] <;> iassumption

end Cert.KernelIdeal.Ring
-- ==== Proof.Ring.Hop.lean ====
module

public import proofs.«01_k».proof.Proof.Ring.Copies

@[expose] public section

noncomputable section

/-! # One hop of the ring, and what comes before the first and after the last

A hop starts with one block's weights in hand and its keys and values on their way; it ends with the next block's
weights in hand and the next block's keys and values on their way, the block added to the accumulator. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Facts₀ Facts Idealize.ShloMosaic.ValueIdx

variable {F : FTy → Type} [FloatOps F]

local notation "𝕄" => MT nD τ sig Unit (Elt F) ℕ UU ℕ

variable (B : Blocks F) (κ : GSem nD τ sig → ℕ) (c : Dev nD)

/-- The block a device adds at hop `h`: the weights come from `h` places to the left. -/
def blockStep (h : Fin 8) (acc : FVec F S512x512 .f32) : FVec F S512x512 .f32 :=
  step (B.x c) (B.wq (back c h)) (B.wo (back c h)) (blockK B c h) (blockV B c h) acc

/-- Computing the block of hop `h`. -/
theorem wp_block (h : Fin 8) (p : Fin 2) (acc : FVec F S512x512 .f32) {q q' : PosShare TreeShare}
    {Q : FVec F S512x512 .f32 → sProp 𝕄} :
    iprop(heldQ B c h q ∗ heldO B c h q' ∗ readyK B c h p ∗ readyV B c h p)
      ⊢ iprop((iprop(heldQ B c h q ∗ heldO B c h q' ∗ readyK B c h p ∗ readyV B c h p) -∗ Q (blockStep B c h acc))
        -∗ WP c (comp (B.x c) h p acc) Q) := by
  unfold heldQ heldO readyK readyV
  iintro ⟨HQ, HO, ⟨HK, SK⟩, HV, SV⟩ Hk
  iapply (wp_comp c (B.x c) h p acc) $$ [HQ HO HK HV]
  · isplitl [HQ]; · iexact HQ
    isplitl [HO]; · iexact HO
    isplitl [HK] <;> iassumption
  iintro ⟨HQ, HO, HK, HV⟩
  unfold blockStep
  iapply Hk
  isplitl [HQ]; · iexact HQ
  isplitl [HO]; · iexact HO
  isplitl [HK SK]
  · isplitl [HK] <;> iassumption
  · isplitl [HV] <;> iassumption

/-- The state between two hops: the weights of block `h` in hand, its keys and values on their way into buffer `p`,
buffer `p'` at rest, the hops from `h` on still owed. -/
def between (h : Fin 8) (p p' : Fin 2) : sProp 𝕄 :=
  iprop(heldQ B c h fullShare ∗ heldO B c h fullShare ∗ (∃ W, owes (c : Thread nD τ) (dues c h.val) W)
    ∗ comingK B c h p ∗ comingV B c h p ∗ idleK B c p' ∗ idleV B c p')

/-- One hop: the slots of hop `k` are sent on, the block is added to the accumulator, and the device stands between this
hop and the next with the two local buffers exchanged. -/
theorem wp_hop (r r' : Dev nD) (hr : r = nxt c) (hr' : r' = nxt c) (k : Fin 7) (p p' : Fin 2)
    (acc : FVec F S512x512 .f32) {Q : FVec F S512x512 .f32 → sProp 𝕄} :
    iprop(ringInv B κ ∗ levAts L lv ∗ todo (F := F) c k ∗ spare (F := F) (nxt c) k ∗ between B c k.castSucc p p')
      ⊢ iprop((iprop(spent B c k ∗ between B c k.succ p' p) -∗ Q (blockStep B c k.castSucc acc))
        -∗ WP c (hop c r r' (B.x c) k.castSucc k.succ p p' acc) Q) := by
  unfold todo spare between hop
  iintro ⟨#Hinv, #Hlev, ⟨Ts1, Ts2, Tr1, Tr2, R1, R2, P1, P2, P3, P4, C3, C4⟩, ⟨FQ, FO, R3, R4⟩, HQ, HO, ⟨%W, Hw⟩, HK, HV, IK, IV⟩ Hk
  rw [show k.castSucc.val = k.val from rfl, dues_succ c k.val k.isLt, show up k.val = k.succ from up_eq k.castSucc k.succ (by simp)]
  rw [WP_bind]
  iapply (wp_sendQ B κ c r hr k _ W) $$ [HQ FQ Hw Ts1 R1 Tr1 R3]
  · isplitr; · iexact Hinv
    isplitl [HQ]; · iexact HQ
    isplitl [FQ]; · iexact FQ
    isplitl [Hw]; · iexact Hw
    isplitl [Ts1]; · iexact Ts1
    isplitl [R1]; · iexact R1
    isplitl [Tr1] <;> iassumption
  iintro ⟨HQ, C1, Hw⟩
  rw [WP_bind]
  iapply (wp_sendO B κ c r' hr' k _ W) $$ [HO FO Hw Ts2 R2 Tr2 R4]
  · isplitr; · iexact Hinv
    isplitl [HO]; · iexact HO
    isplitl [FO]; · iexact FO
    isplitl [Hw]; · iexact Hw
    isplitl [Ts2]; · iexact Ts2
    isplitl [R2]; · iexact R2
    isplitl [Tr2] <;> iassumption
  iintro ⟨HO, C2, Hw⟩
  rw [WP_bind]; iapply (wp_fetchK B c k.succ p') $$ IK; iintro NK'
  rw [WP_bind]; iapply (wp_fetchV B c k.succ p') $$ IV; iintro NV'
  rw [WP_bind]
  iapply (wp_waitK B c k.castSucc p (k.val + 1) W) $$ [HK Hw]
  · isplitr; · iexact Hlev
    isplitl [HK] <;> iassumption
  iintro ⟨HK, ⟨%W', Hw⟩⟩
  rw [WP_bind]
  iapply (wp_waitV B c k.castSucc p (k.val + 1) W') $$ [HV Hw]
  · isplitr; · iexact Hlev
    isplitl [HV] <;> iassumption
  iintro ⟨HV, Hw⟩
  rw [WP_bind]
  iapply (wp_block B c k.castSucc p acc) $$ [HQ HO HK HV]
  · isplitl [HQ]; · iexact HQ
    isplitl [HO]; · iexact HO
    isplitl [HK] <;> iassumption
  iintro ⟨HQ, HO, HK, HV⟩
  rw [WP_bind]
  iapply (wp_waitQ B κ c k) $$ [HQ Hw C1 P1 C3 P3]
  · isplitr; · iexact Hinv
    isplitr; · iexact Hlev
    isplitl [Hw]; · iexact Hw
    isplitl [HQ]; · iexact HQ
    isplitl [C1]; · iexact C1
    isplitl [P1]; · iexact P1
    isplitl [C3] <;> iassumption
  iintro ⟨Hw, V1, V2, HQ, HQ'⟩
  rw [WP_bind]
  iapply (wp_waitO B κ c k) $$ [HO Hw C2 P2 C4 P4]
  · isplitr; · iexact Hinv
    isplitr; · iexact Hlev
    isplitl [Hw]; · iexact Hw
    isplitl [HO]; · iexact HO
    isplitl [C2]; · iexact C2
    isplitl [P2]; · iexact P2
    isplitl [C4] <;> iassumption
  iintro ⟨Hw, V3, V4, HO, HO'⟩
  iapply (WP_pure (F := F))
  iapply Hk
  isplitl [V1 V2 V3 V4 HQ HO]
  · unfold spent
    isplitl [V1]; · iexact V1
    isplitl [V3]; · iexact V3
    isplitl [V2]; · iexact V2
    isplitl [V4]; · iexact V4
    isplitl [HQ] <;> iassumption
  isplitl [HQ']; · iexact HQ'
  isplitl [HO']; · iexact HO'
  isplitl [Hw]; · iexact Hw
  isplitl [NK']; · iexact NK'
  isplitl [NV']; · iexact NV'
  isplitl [HK]
  · iapply (readyK_idle B c k.castSucc p); iexact HK
  · iapply (readyV_idle B c k.castSucc p); iexact HV

/-! ## The start -/

/-- A signal on a neighbour's barrier. -/
theorem wp_signalBar (d : Dev nD) (b : Bool) (O : CellTallies nD τ sig Unit) (W : Waits sig Unit) {Q : PUnit → sProp 𝕄} :
    iprop(ringInv B κ ∗ owes (c : Thread nD τ) (O + tallyAt (bar d) () 1) W ∗ dutyTok ER (bar d) 0 b
        ∗ (sched B).payload (bar d) 0 b ∗ reached ER (bar d) 0)
      ⊢ iprop((owes (c : Thread nD τ) O W -∗ Q ⟨⟩) -∗ WP c (semSignalWord d barSem 1#32) Q) := by
  iintro ⟨#Hinv, HO, Ht, Hp, Hr⟩ Hk
  ihave #Hi := (ringInv_bar B κ d) $$ Hinv
  unfold semSignalWord
  rw [show (1#32 : BitVec 32).toInt = ((1 : ℕ) : ℤ) by decide]
  iapply (wp_signal (defs := defs₀ (F := F)) Variants.none ER (sched B) (c : Thread nD τ) none (dst := (d : Thread nD τ))
    (sem := barSem) (r := 0) (d := b) (k' := 1) (κ := κ (bar d)) (by rw [duties_bar]; revert b; decide)
    (amount_bar B d b) () O rfl) $$ [HO Ht Hp Hr]
  · isplitr; · iexact Hi
    isplitl [HO]; · iexact HO
    isplitl [Ht]; · iexact Ht
    isplitl [Hp] <;> iassumption
  iintro HO
  iapply (WP_ret (F := F))
  iapply Hk; iexact HO

/-- The wait for both neighbours: it brings the right neighbour's empty slots. -/
theorem wp_waitBar (W : Waits sig Unit) {Q : PUnit → sProp 𝕄} :
    iprop(ringInv B κ ∗ levAts L lv ∗ cred (tallyAt (bar c) () 2) ∗ owes (c : Thread nD τ) (dues c 0) W
        ∗ atPos ER (bar c) 0 ∅ 0)
      ⊢ iprop((iprop((∃ W, owes (c : Thread nD τ) (dues c 0) W) ∗ semVal (bar c) 0
          ∗ bigSep Finset.univ (spare (F := F) (nxt c))) -∗ Q ⟨⟩) -∗ WP c (semWaitWord barSem 2#32) Q) := by
  iintro ⟨#Hinv, Hlev, Hc, HO, Hat⟩ Hk
  ihave #Hi := (ringInv_bar B κ c) $$ Hinv
  ihave Hmw := (mayWait_dues (F := F) c (.reg barSem) 0 (le_refl 1)) $$ Hlev
  unfold semWaitWord
  rw [show (2#32 : BitVec 32).toInt = ((2 : ℕ) : ℤ) by decide]
  iapply (wp_wait_rest_token (defs := defs₀ (F := F)) Variants.none ER (sched B) (c : Thread nD τ) none
    (wpE_semWait_eq Variants.none (c : Thread nD τ) none Set.univ) (Set.mem_univ (κ (bar c))) ()
    (R := 0) (T := ∅) (m := 0) ((Nat.zero_add _).trans (expect_bar B c).symm)) $$ [Hc HO Hmw Hat]
  · isplitr; · iexact Hi
    isplitl [Hc]; · iexact Hc
    isplitl [HO]; · iexact HO
    isplitl [Hmw] <;> iassumption
  have hp : bigSep ((sched B).duties (bar c) 0 \ ∅) (fun d => (sched B).payload (bar c) 0 d)
      = iprop(bigSep Finset.univ (spare (F := F) (nxt c)) ∗ emp) := by
    rw [Finset.sdiff_empty, duties_bar, bigSep_insert (by decide), bigSep_singleton]; rfl
  rw [hp]
  iintro ⟨HO, Hat, -, Hp, -⟩
  imod (close_cell B κ _ (bar_mem c)) $$ [Hat] with Hv
  · isplitr; · iexact Hinv
    iexact Hat
  iapply (WP_ret (F := F))
  iapply Hk
  isplitl [HO]; · iexists _; iexact HO
  isplitl [Hv] <;> iassumption

/-! ## The loads and stores of whole staging buffers, and the stores of slot 0 -/

section Whole

variable {α : Type}

/-- Loading the activations returns the staging buffer's contents. -/
theorem wp_loadX {q : PosShare TreeShare} {f : Vec F S2x256x512 .f32} {hl}
    {k : Vec F S2x256x512 .f32 → P F α} {Q : α → sProp 𝕄} :
    ((c : Thread nD τ).loc cc0_stg0_0 ↦{q} f) ⊢ iprop((((c : Thread nD τ).loc cc0_stg0_0 ↦{q} f) -∗ WP c (k f) Q)
      -∗ WP c (.op (.load memX (Rect.unit (s := S2x256x512) ![0, 0, 0] S2x256x512.size
          Facts₀.inb_S2x256x512_S2x256x512_0_0_0).toLoadRect hl) k) Q) := by
  iintro H Hk
  iapply (wp_load (defs := defs₀ (F := F)) Variants.none (c : Thread nD τ) none Set.univ (m := memX)
    (S := Finset.univ) (f := f) (Finset.subset_univ _)) $$ H
  iintro H
  have e : memX.view.readAt (Elt F) (Rect.unit (s := S2x256x512) ![0, 0, 0] S2x256x512.size Facts₀.inb_S2x256x512_S2x256x512_0_0_0).toLoadRect f = f :=
    Memref.readAt_unit_zero (Elt F) cc0_stg0_0 (by decide) _ f
  rw [e]
  iapply Hk; iexact H

/-- Loading the device's own query weights returns the staging buffer's contents. -/
theorem wp_loadWq {q : PosShare TreeShare} {f : Vec F S512x256 .bf16} {hl}
    {k : Vec F S512x256 .bf16 → P F α} {Q : α → sProp 𝕄} :
    ((c : Thread nD τ).loc cc0_stg1_0 ↦{q} f) ⊢ iprop((((c : Thread nD τ).loc cc0_stg1_0 ↦{q} f) -∗ WP c (k f) Q)
      -∗ WP c (.op (.load memWq (Rect.unit (s := S512x256) ![0, 0] S512x256.size
          Facts₀.inb_S512x256_S512x256_0_0).toLoadRect hl) k) Q) := by
  iintro H Hk
  iapply (wp_load (defs := defs₀ (F := F)) Variants.none (c : Thread nD τ) none Set.univ (m := memWq)
    (S := Finset.univ) (f := f) (Finset.subset_univ _)) $$ H
  iintro H
  have e : memWq.view.readAt (Elt F) (Rect.unit (s := S512x256) ![0, 0] S512x256.size Facts₀.inb_S512x256_S512x256_0_0).toLoadRect f = f :=
    Memref.readAt_unit_zero (Elt F) cc0_stg1_0 (by decide) _ f
  rw [e]
  iapply Hk; iexact H

/-- Loading the device's own output weights returns the staging buffer's contents. -/
theorem wp_loadWo {q : PosShare TreeShare} {f : Vec F S256x512 .bf16} {hl}
    {k : Vec F S256x512 .bf16 → P F α} {Q : α → sProp 𝕄} :
    ((c : Thread nD τ).loc cc0_stg2_0 ↦{q} f) ⊢ iprop((((c : Thread nD τ).loc cc0_stg2_0 ↦{q} f) -∗ WP c (k f) Q)
      -∗ WP c (.op (.load memWo (Rect.unit (s := S256x512) ![0, 0] S256x512.size
          Facts₀.inb_S256x512_S256x512_0_0).toLoadRect hl) k) Q) := by
  iintro H Hk
  iapply (wp_load (defs := defs₀ (F := F)) Variants.none (c : Thread nD τ) none Set.univ (m := memWo)
    (S := Finset.univ) (f := f) (Finset.subset_univ _)) $$ H
  iintro H
  have e : memWo.view.readAt (Elt F) (Rect.unit (s := S256x512) ![0, 0] S256x512.size Facts₀.inb_S256x512_S256x512_0_0).toLoadRect f = f :=
    Memref.readAt_unit_zero (Elt F) cc0_stg2_0 (by decide) _ f
  rw [e]
  iapply Hk; iexact H

/-- The result is stored whole; what the buffer held before is read and dropped. -/
theorem wp_storeOut (w : Vec F S2x256x512 .f32) {f : Vec F S2x256x512 .f32} {hl hx hm} {Q : PUnit → sProp 𝕄} :
    ((c : Thread nD τ).loc cc0_stg3_0 ↦{fullShare} f) ⊢ iprop((((c : Thread nD τ).loc cc0_stg3_0 ↦{fullShare} w) -∗ Q ⟨⟩)
      -∗ WP c (.op (.load memOut (Rect.unit (s := S2x256x512) ![0, 0, 0] S2x256x512.size
          Facts₀.inb_S2x256x512_S2x256x512_0_0_0).toLoadRect hl) fun _ =>
        .op (.store memOut (Rect.unit (s := S2x256x512) ![0, 0, 0] S2x256x512.size Facts₀.inb_S2x256x512_S2x256x512_0_0_0) w
          Finset.univ hx hm) .ret) Q) := by
  iintro H Hk
  iapply (wp_load (defs := defs₀ (F := F)) Variants.none (c : Thread nD τ) none Set.univ (m := memOut)
    (S := Finset.univ) (f := f) (Finset.subset_univ _)) $$ H
  iintro H
  iapply (wp_store (defs := defs₀ (F := F)) Variants.none (c : Thread nD τ) none Set.univ (m := memOut)
    (r := Rect.unit (s := S2x256x512) ![0, 0, 0] S2x256x512.size Facts₀.inb_S2x256x512_S2x256x512_0_0_0)
    (S := Finset.univ) (f := f) (Finset.subset_univ _)) $$ H
  iintro H
  have e : (memOut.access (Rect.unit (s := S2x256x512) ![0, 0, 0] S2x256x512.size
      Facts₀.inb_S2x256x512_S2x256x512_0_0_0)).write (Elt F) f w Finset.univ = w :=
    Memref.write_access_unit_zero_univ (Elt F) cc0_stg3_0 (by decide) _ f w
  rw [e]
  iapply (WP_ret (F := F))
  iapply Hk; iexact H

/-- The query weights stored in slot 0 are the device's own. -/
theorem pay_Q (w : Vec F S512x256 .bf16) :
    shapeCast S512x256 (Gen.k0_pay2 w) Facts₀.shapeCasts_S1x512x256_S512x256 = w := by
  show shapeCast S512x256 (shapeCast S1x512x256 (shapeCast S512x256 w _) _) _ = w
  rw [shapeCast_shapeCast, shapeCast_self]
/-- The output weights stored in slot 0 are the device's own. -/
theorem pay_O (w : Vec F S256x512 .bf16) :
    shapeCast S256x512 (Gen.k0_pay3 w) Facts₀.shapeCasts_S1x256x512_S256x512 = w := by
  show shapeCast S256x512 (shapeCast S1x256x512 (shapeCast S256x512 w _) _) _ = w
  rw [shapeCast_shapeCast, shapeCast_self]

/-- Slot 0 is given the device's own query weights; what it held before is read and dropped. -/
theorem wp_storeQ (w : Vec F S512x256 .bf16) {hl hx hm} {k : PUnit → P F α} {Q : α → sProp 𝕄} :
    freeQ (F := F) c 0 ⊢ iprop((owns (c : Thread nD τ) (slotQ 0) fullShare w -∗ WP c (k ⟨⟩) Q)
      -∗ WP c (.op (.load memQ (rectQ 0).toLoadRect hl) fun _ =>
        .op (.store memQ (rectQ 0) (Gen.k0_pay2 w) Finset.univ hx hm) k) Q) := by
  unfold freeQ
  iintro ⟨%f, H⟩ Hk
  iapply (wp_load_rect (defs := defs₀ (F := F)) Variants.none (c : Thread nD τ) none Set.univ (m := memQ) (r := rectQ 0)
    (S := (slotQ 0).view.set) (f := f) (set_slotQ 0).ge) $$ H
  iintro H
  iapply (wp_store (defs := defs₀ (F := F)) Variants.none (c : Thread nD τ) none Set.univ (m := memQ) (r := rectQ 0)
    (S := (slotQ 0).view.set) (f := f) (set_slotQ 0).ge) $$ H
  iintro H
  iapply Hk
  unfold owns
  iexists _; isplitr; swap; · iexact H
  ipureintro
  have h1 : ∀ g, (slotQ 0).view.read (Elt F) g
      = shapeCast S512x256 ((memQ.access (rectQ 0)).read (Elt F) g) Facts₀.shapeCasts_S1x512x256_S512x256 := fun _ => rfl
  rw [h1, View.read_write_univ]
  exact pay_Q w

/-- The same for the output weights. -/
theorem wp_storeO (w : Vec F S256x512 .bf16) {hl hx hm} {k : PUnit → P F α} {Q : α → sProp 𝕄} :
    freeO (F := F) c 0 ⊢ iprop((owns (c : Thread nD τ) (slotO 0) fullShare w -∗ WP c (k ⟨⟩) Q)
      -∗ WP c (.op (.load memO (rectO 0).toLoadRect hl) fun _ =>
        .op (.store memO (rectO 0) (Gen.k0_pay3 w) Finset.univ hx hm) k) Q) := by
  unfold freeO
  iintro ⟨%f, H⟩ Hk
  iapply (wp_load_rect (defs := defs₀ (F := F)) Variants.none (c : Thread nD τ) none Set.univ (m := memO) (r := rectO 0)
    (S := (slotO 0).view.set) (f := f) (set_slotO 0).ge) $$ H
  iintro H
  iapply (wp_store (defs := defs₀ (F := F)) Variants.none (c : Thread nD τ) none Set.univ (m := memO) (r := rectO 0)
    (S := (slotO 0).view.set) (f := f) (set_slotO 0).ge) $$ H
  iintro H
  iapply Hk
  unfold owns
  iexists _; isplitr; swap; · iexact H
  ipureintro
  have h1 : ∀ g, (slotO 0).view.read (Elt F) g
      = shapeCast S256x512 ((memO.access (rectO 0)).read (Elt F) g) Facts₀.shapeCasts_S1x256x512_S256x512 := fun _ => rfl
  rw [h1, View.read_write_univ]
  exact pay_O w

end Whole

end Cert.KernelIdeal.Ring
-- ==== Proof.Ring.Body.lean ====
module

public import proofs.«01_k».proof.Proof.Ring.Hop

@[expose] public section

noncomputable section

/-! # The whole body of one device

The start, the seven hops and the finish, put together. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Facts₀ Facts Idealize.ShloMosaic.ValueIdx

variable {F : FTy → Type} [FloatOps F]

local notation "𝕄" => MT nD τ sig Unit (Elt F) ℕ UU ℕ

variable (B : Blocks F) (κ : GSem nD τ sig → ℕ) (c : Dev nD)

/-- The accumulator after the blocks of the hops before `n`. -/
def accAt : ℕ → FVec F S512x512 .f32
  | 0 => Gen.k0_pay15
  | n + 1 => blockStep B c (Fin.ofNat 8 n) (accAt n)

/-- What a device's result holds. -/
def outBlock : Vec F S2x256x512 .f32 := shapeCast S2x256x512 (accAt B c 8) Facts₀.shapeCasts_S512x512_S2x256x512

/-- The staging buffers of the activations and of the device's own weights. -/
def staged : sProp 𝕄 :=
  iprop(((c : Thread nD τ).loc cc0_stg0_0 ↦{fullShare} B.x c) ∗ ((c : Thread nD τ).loc cc0_stg1_0 ↦{fullShare} B.wq c)
    ∗ ((c : Thread nD τ).loc cc0_stg2_0 ↦{fullShare} B.wo c))

/-- What a device holds for the handshake with its neighbours: a signal owed to each, its own wait, and the slots it
offers to its left neighbour. -/
def handshake : sProp 𝕄 :=
  iprop(dutyTok ER (bar (prv c)) 0 true ∗ dutyTok ER (bar (nxt c)) 0 false ∗ reached ER (bar (prv c)) 0
    ∗ reached ER (bar (nxt c)) 0 ∗ cred (tallyAt (bar c) () 2) ∗ atPos ER (bar c) 0 ∅ 0
    ∗ bigSep Finset.univ (spare (F := F) c))

/-- Before the first hop: with its buffers at rest and the barriers still owed, a device ends at the first hop, with its
barrier at zero and the right neighbour's empty slots in hand. -/
theorem wp_start (left right : Dev nD) (hl : left = prv c) (hr : right = nxt c)
    {Q : Vec F S2x256x512 .f32 → sProp 𝕄} :
    iprop(ringInv B κ ∗ levAts L lv ∗ (∃ W, owes (c : Thread nD τ) (owe c) W) ∗ handshake (F := F) c ∗ staged B c
        ∗ idleK B c 0 ∗ idleV B c 0 ∗ idleK B c 1 ∗ idleV B c 1 ∗ freeQ (F := F) c 0 ∗ freeO (F := F) c 0)
      ⊢ iprop((iprop(between B c 0 0 1 ∗ staged B c ∗ semVal (bar c) 0 ∗ bigSep Finset.univ (spare (F := F) (nxt c)))
          -∗ Q (B.x c)) -∗ WP c (start c left right) Q) := by
  subst hl hr
  unfold handshake staged start
  rw [owe]
  iintro ⟨#Hinv, #Hlev, ⟨%W, Hw⟩, ⟨T1, T2, R1, R2, C, At, Sp⟩, ⟨Sx, Sq, So⟩, IK, IV, IK1, IV1, FQ, FO⟩ Hk
  simp only [Prog.bind_lift]
  rw [WP_bind]; iapply (wp_fetchK B c 0 0) $$ IK; iintro NK'
  rw [WP_bind]; iapply (wp_fetchV B c 0 0) $$ IV; iintro NV'
  rw [WP_bind]
  iapply (wp_signalBar B κ c (prv c) true _ W) $$ [Hw T1 R1 Sp]
  · isplitr; · iexact Hinv
    isplitl [Hw]; · iexact Hw
    isplitl [T1]; · iexact T1
    rw [payload_bar B (prv c), nxt_prv]
    isplitl [Sp] <;> iassumption
  iintro Hw
  rw [WP_bind]
  iapply (wp_signalBar B κ c (nxt c) false _ W) $$ [Hw T2 R2]
  · isplitr; · iexact Hinv
    isplitl [Hw]; · iexact Hw
    isplitl [T2]; · iexact T2
    rw [payload_bar' B (nxt c)]
    isplitr; · iempintro
    iexact R2
  iintro Hw
  rw [WP_bind]
  iapply (wp_waitBar B κ c W) $$ [Hw C At]
  · isplitr; · iexact Hinv
    isplitr; · iexact Hlev
    isplitl [C]; · iexact C
    isplitl [Hw] <;> iassumption
  iintro ⟨Hw, Hb, Sp⟩
  iapply (wp_loadWq c) $$ Sq; iintro Sq
  iapply (wp_storeQ c (B.wq c)) $$ FQ; iintro HQ
  iapply (wp_loadWo c) $$ So; iintro So
  iapply (wp_storeO c (B.wo c)) $$ FO; iintro HO
  iapply (wp_loadX c) $$ Sx; iintro Sx
  iapply (WP_ret (F := F))
  iapply Hk
  unfold between heldQ heldO
  rw [back_zero]
  isplitl [HQ HO Hw NK' NV' IK1 IV1]
  · isplitl [HQ]; · iexact HQ
    isplitl [HO]; · iexact HO
    isplitl [Hw]; · iexact Hw
    isplitl [NK']; · iexact NK'
    isplitl [NV']; · iexact NV'
    isplitl [IK1] <;> iassumption
  isplitl [Sx Sq So]
  · isplitl [Sx]; · iexact Sx
    isplitl [Sq] <;> iassumption
  isplitl [Hb] <;> iassumption

/-- After the last hop: the last block is added, the result stands in its staging buffer, nothing is owed, and both
local buffers are at rest. -/
theorem wp_finish (acc : FVec F S512x512 .f32) {Q : PUnit → sProp 𝕄} :
    iprop(levAts L lv ∗ between B c 7 1 0 ∗ (∃ f, (c : Thread nD τ).loc cc0_stg3_0 ↦{fullShare} f))
      ⊢ iprop((iprop(heldQ B c 7 fullShare ∗ heldO B c 7 fullShare ∗ idleK B c 0 ∗ idleV B c 0 ∗ idleK B c 1 ∗ idleV B c 1
            ∗ (∃ W, owes (c : Thread nD τ) (0 : CellTallies nD τ sig Unit) W)
            ∗ ((c : Thread nD τ).loc cc0_stg3_0 ↦{fullShare}
                shapeCast S2x256x512 (blockStep B c 7 acc) Facts₀.shapeCasts_S512x512_S2x256x512))
          -∗ Q ⟨⟩) -∗ WP c (finish (B.x c) acc) Q) := by
  unfold between finish
  rw [show (7 : Fin 8).val = 7 from rfl]
  iintro ⟨#Hlev, ⟨HQ, HO, ⟨%W, Hw⟩, NK', NV', IK, IV⟩, ⟨%f, Sf⟩⟩ Hk
  simp only [Prog.bind_lift]
  rw [WP_bind]
  iapply (wp_waitK B c 7 1 7 W) $$ [NK' Hw]
  · isplitr; · iexact Hlev
    isplitl [NK'] <;> iassumption
  iintro ⟨HK, ⟨%W', Hw⟩⟩
  rw [WP_bind]
  iapply (wp_waitV B c 7 1 7 W') $$ [NV' Hw]
  · isplitr; · iexact Hlev
    isplitl [NV'] <;> iassumption
  iintro ⟨HV, Hw⟩
  rw [WP_bind]
  iapply (wp_block B c 7 1 acc) $$ [HQ HO HK HV]
  · isplitl [HQ]; · iexact HQ
    isplitl [HO]; · iexact HO
    isplitl [HK] <;> iassumption
  iintro ⟨HQ, HO, HK, HV⟩
  iapply (wp_storeOut c _) $$ Sf; iintro Sf
  iapply Hk
  rw [dues_seven]
  isplitl [HQ]; · iexact HQ
  isplitl [HO]; · iexact HO
  isplitl [IK]; · iexact IK
  isplitl [IV]; · iexact IV
  isplitl [HK]; · iapply (readyK_idle B c 7 1); iexact HK
  isplitl [HV]; · iapply (readyV_idle B c 7 1); iexact HV
  isplitl [Hw] <;> iassumption

/-- The device number computed for the right neighbour is the right neighbour's. -/
theorem dev_nxt {n : ℕ} (hn : n < nD) (e : n = (c.val + 1) % 8) : (⟨n, hn⟩ : Dev nD) = nxt c := Fin.ext e
/-- The device number computed for the left neighbour is the left neighbour's. -/
theorem dev_prv {n : ℕ} (hn : n < nD) (e : n = (c.val + 7) % 8) : (⟨n, hn⟩ : Dev nD) = prv c := Fin.ext e

/-- A hop between blocks numbered among the eight. -/
theorem wp_hopAt (r r' : Dev nD) (hr : r = nxt c) (hr' : r' = nxt c) (k : Fin 7) (h h' : Fin 8) (hh : h = k.castSucc)
    (hh' : h' = k.succ) (p p' : Fin 2) (acc : FVec F S512x512 .f32) {Q : FVec F S512x512 .f32 → sProp 𝕄} :
    iprop(ringInv B κ ∗ levAts L lv ∗ todo (F := F) c k ∗ spare (F := F) (nxt c) k ∗ between B c h p p')
      ⊢ iprop((iprop(spent B c k ∗ between B c h' p' p) -∗ Q (blockStep B c h acc))
        -∗ WP c (hop c r r' (B.x c) h h' p p' acc) Q) := by
  subst hh hh'
  exact wp_hop B κ c r r' hr hr' k p p' acc

/-- A product over the seven hops, factor by factor. -/
theorem bigSep_hops (Φ : Fin 7 → sProp 𝕄) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide,
    bigSep_insert (by decide), bigSep_insert (by decide), bigSep_insert (by decide), bigSep_insert (by decide),
    bigSep_insert (by decide), bigSep_insert (by decide), bigSep_singleton]
  rfl

/-- Asking for the device's number yields the device itself. -/
theorem WP_deviceId {α : Type} (k : Dev nD → P F α) (Q : α → sProp 𝕄) :
    WP c (.op .deviceId k) Q = WP c (k c) Q := wp_deviceId _ _ _ _

/-- What a device holds before its body. -/
def bodyPre : sProp 𝕄 :=
  iprop(ringInv B κ ∗ levAts L lv ∗ (∃ W, owes (c : Thread nD τ) (owe c) W) ∗ handshake (F := F) c ∗ staged B c
    ∗ (idleK B c 0 ∗ idleV B c 0 ∗ idleK B c 1 ∗ idleV B c 1) ∗ (freeQ (F := F) c 0 ∗ freeO (F := F) c 0)
    ∗ bigSep Finset.univ (todo (F := F) c) ∗ (∃ f, (c : Thread nD τ).loc cc0_stg3_0 ↦{fullShare} f))

/-- What it holds after: every semaphore of the ring at zero, all eight slots, and the result. -/
def bodyPost : sProp 𝕄 :=
  iprop((∃ W, owes (c : Thread nD τ) (0 : CellTallies nD τ sig Unit) W) ∗ staged B c
    ∗ (idleK B c 0 ∗ idleV B c 0 ∗ idleK B c 1 ∗ idleV B c 1) ∗ (heldQ B c 7 fullShare ∗ heldO B c 7 fullShare)
    ∗ bigSep Finset.univ (spent B c) ∗ semVal (bar c) 0 ∗ ((c : Thread nD τ).loc cc0_stg3_0 ↦{fullShare} outBlock B c))

/-- The body, from what a device holds before it to what it holds after it. -/
theorem wp_body {Q : PUnit → sProp 𝕄} :
    bodyPre B κ c ⊢ iprop((bodyPost B c -∗ Q ⟨⟩) -∗ WP c body Q) := by
  unfold bodyPre bodyPost body
  rw [bigSep_hops, bigSep_hops]
  iintro ⟨#Hinv, #Hlev, Hw, Hh, St, ⟨IK, IV, IK', IV'⟩, ⟨FQ, FO⟩, ⟨T0, T1, T2, T3, T4, T5, T6⟩, Hout⟩ Hk
  rw [Prog.bind_lift, WP_deviceId, WP_bind]
  iapply (wp_start B κ c _ _ (dev_prv c (Facts₀.k0_dev1_lt c) (k0_dev1_eq c)) (dev_nxt c (Facts₀.k0_dev2_lt c) (k0_dev2_eq c))) $$ [Hw Hh St IK IV IK' IV' FQ FO]
  · isplitr; · iexact Hinv
    isplitr; · iexact Hlev
    isplitl [Hw]; · iexact Hw
    isplitl [Hh]; · iexact Hh
    isplitl [St]; · iexact St
    isplitl [IK]; · iexact IK
    isplitl [IV]; · iexact IV
    isplitl [IK']; · iexact IK'
    isplitl [IV']; · iexact IV'
    isplitl [FQ] <;> iassumption
  rw [bigSep_hops]
  iintro ⟨Hb, St, Sb, S0, S1, S2, S3, S4, S5, S6⟩
  rw [WP_bind]
  iapply (wp_hopAt B κ c _ _ (dev_nxt c (Facts₀.k0_dev3_lt c) (k0_dev3_eq c)) (dev_nxt c (Facts₀.k0_dev4_lt c) (k0_dev4_eq c)) 0 0 1 rfl rfl 0 1 _) $$ [T0 S0 Hb]
  · isplitr; · iexact Hinv
    isplitr; · iexact Hlev
    isplitl [T0]; · iexact T0
    isplitl [S0]; · iexact S0
    iexact Hb
  iintro ⟨E0, Hb⟩
  rw [WP_bind]
  iapply (wp_hopAt B κ c _ _ (dev_nxt c (Facts₀.k0_dev5_lt c) (k0_dev5_eq c)) (dev_nxt c (Facts₀.k0_dev6_lt c) (k0_dev6_eq c)) 1 1 2 rfl rfl 1 0 _) $$ [T1 S1 Hb]
  · isplitr; · iexact Hinv
    isplitr; · iexact Hlev
    isplitl [T1]; · iexact T1
    isplitl [S1]; · iexact S1
    iexact Hb
  iintro ⟨E1, Hb⟩
  rw [WP_bind]
  iapply (wp_hopAt B κ c _ _ (dev_nxt c (Facts₀.k0_dev7_lt c) (k0_dev7_eq c)) (dev_nxt c (Facts₀.k0_dev8_lt c) (k0_dev8_eq c)) 2 2 3 rfl rfl 0 1 _) $$ [T2 S2 Hb]
  · isplitr; · iexact Hinv
    isplitr; · iexact Hlev
    isplitl [T2]; · iexact T2
    isplitl [S2]; · iexact S2
    iexact Hb
  iintro ⟨E2, Hb⟩
  rw [WP_bind]
  iapply (wp_hopAt B κ c _ _ (dev_nxt c (Facts₀.k0_dev9_lt c) (k0_dev9_eq c)) (dev_nxt c (Facts₀.k0_dev10_lt c) (k0_dev10_eq c)) 3 3 4 rfl rfl 1 0 _) $$ [T3 S3 Hb]
  · isplitr; · iexact Hinv
    isplitr; · iexact Hlev
    isplitl [T3]; · iexact T3
    isplitl [S3]; · iexact S3
    iexact Hb
  iintro ⟨E3, Hb⟩
  rw [WP_bind]
  iapply (wp_hopAt B κ c _ _ (dev_nxt c (Facts₀.k0_dev11_lt c) (k0_dev11_eq c)) (dev_nxt c (Facts₀.k0_dev12_lt c) (k0_dev12_eq c)) 4 4 5 rfl rfl 0 1 _) $$ [T4 S4 Hb]
  · isplitr; · iexact Hinv
    isplitr; · iexact Hlev
    isplitl [T4]; · iexact T4
    isplitl [S4]; · iexact S4
    iexact Hb
  iintro ⟨E4, Hb⟩
  rw [WP_bind]
  iapply (wp_hopAt B κ c _ _ (dev_nxt c (Facts₀.k0_dev13_lt c) (k0_dev13_eq c)) (dev_nxt c (Facts₀.k0_dev14_lt c) (k0_dev14_eq c)) 5 5 6 rfl rfl 1 0 _) $$ [T5 S5 Hb]
  · isplitr; · iexact Hinv
    isplitr; · iexact Hlev
    isplitl [T5]; · iexact T5
    isplitl [S5]; · iexact S5
    iexact Hb
  iintro ⟨E5, Hb⟩
  rw [WP_bind]
  iapply (wp_hopAt B κ c _ _ (dev_nxt c (Facts₀.k0_dev15_lt c) (k0_dev15_eq c)) (dev_nxt c (Facts₀.k0_dev16_lt c) (k0_dev16_eq c)) 6 6 7 rfl rfl 0 1 _) $$ [T6 S6 Hb]
  · isplitr; · iexact Hinv
    isplitr; · iexact Hlev
    isplitl [T6]; · iexact T6
    isplitl [S6]; · iexact S6
    iexact Hb
  iintro ⟨E6, Hb⟩
  iapply (wp_finish B c _) $$ [Hb Hout]
  · isplitr; · iexact Hlev
    isplitl [Hb]; · iexact Hb
    iexact Hout
  iintro ⟨HQ, HO, IK, IV, IK', IV', Hw, Hout⟩
  iapply Hk
  isplitl [Hw]; · iexact Hw
  isplitl [St]; · iexact St
  isplitl [IK IV IK' IV']
  · isplitl [IK]; · iexact IK
    isplitl [IV]; · iexact IV
    isplitl [IK'] <;> iassumption
  isplitl [HQ HO]; · isplitl [HQ] <;> iassumption
  isplitl [E0 E1 E2 E3 E4 E5 E6]
  · isplitl [E0]; · iexact E0
    isplitl [E1]; · iexact E1
    isplitl [E2]; · iexact E2
    isplitl [E3]; · iexact E3
    isplitl [E4]; · iexact E4
    isplitl [E5]; · iexact E5
    iexact E6
  isplitl [Sb]; · iexact Sb
  iexact Hout

end Cert.KernelIdeal.Ring
-- ==== Proof.Ring.Memory.lean ====
module

public import proofs.«01_k».proof.Proof.Ring.Body
public import Idealize.ShloMosaic.Lib.Ring

@[expose] public section

noncomputable section

/-! # The scratch buffers, slot by slot

A device receives each scratch buffer whole and gives it back whole; in between it holds the slots one by one. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Facts₀ Facts

variable {F : FTy → Type} [FloatOps F]

local notation "𝕄" => MT nD τ sig Unit (Elt F) ℕ UU ℕ

/-! ## A family over eight slots -/

/-- The first slot and the seven after it. -/
theorem bigSep_first (Φ : Fin 8 → sProp 𝕄) :
    bigSep Finset.univ Φ = iprop(Φ 0 ∗ bigSep Finset.univ fun k : Fin 7 => Φ k.succ) := by
  rw [Fin.univ_succ, Finset.cons_eq_insert, bigSep_insert (by simp), BI.bigSep_map]; rfl
/-- The last slot and the seven before it. -/
theorem bigSep_last (Φ : Fin 8 → sProp 𝕄) :
    bigSep Finset.univ Φ = iprop(Φ 7 ∗ bigSep Finset.univ fun k : Fin 7 => Φ k.castSucc) := by
  rw [Fin.univ_castSuccEmb, Finset.cons_eq_insert,
    bigSep_insert (by simp only [Finset.mem_map, Finset.mem_univ, true_and, not_exists]; exact fun k => (Fin.castSucc_lt_last k).ne),
    BI.bigSep_map]
  rfl
/-- A share for each of two buffers, written out. -/
theorem bigSep_two (Φ : Fin 2 → sProp 𝕄) : bigSep Finset.univ Φ = iprop(Φ 0 ∗ Φ 1) := BI.bigSep_fin_two Φ

/-! ## The elements of a slot -/

/-- The elements of slot `h` of the query weights are those of its rectangle. -/
theorem setQ (h : Fin 8) : (slotQ h).view.set = (rectQ h).set :=
  (View.set_reshape _ _).trans (View.set_slice_whole _ _)
/-- The elements of slot `h` of the output weights are those of its rectangle. -/
theorem setO (h : Fin 8) : (slotO h).view.set = (rectO h).set :=
  (View.set_reshape _ _).trans (View.set_slice_whole _ _)
/-- The elements of buffer `p` of the keys are those of its rectangle. -/
theorem setK (p : Fin 2) : (slotK p).view.set = (rectP p).set :=
  (View.set_reshape _ _).trans (View.set_slice_whole _ _)
/-- The elements of buffer `p` of the values are those of its rectangle. -/
theorem setV (p : Fin 2) : (slotV p).view.set = (rectP p).set :=
  (View.set_reshape _ _).trans (View.set_slice_whole _ _)

/-- The same as elements of the whole buffer. -/
abbrev elemsQ (h : Fin 8) : Finset S8x512x256.Idx := (slotQ h).view.set
abbrev elemsO (h : Fin 8) : Finset S8x256x512.Idx := (slotO h).view.set
abbrev elemsK (p : Fin 2) : Finset S2x2x256x256.Idx := (slotK p).view.set

/-- Different slots of the query weights are disjoint. -/
theorem disjQ (h h' : Fin 8) (hne : h ≠ h') : Disjoint (slotQ h).view.set (slotQ h').view.set := by
  rw [setQ, setQ]
  exact Ring.lead_disjoint (s := S8x512x256) (0 : Fin 3) 1 (fun h : Fin 8 => ![h.val, 0, 0]) S1x512x256.size inbQ
    (fun b => (one_mul b.val).symm) rfl h h' hne
/-- The slots of the query weights cover the buffer. -/
theorem coverQ : Finset.univ.biUnion elemsQ = Finset.univ := by
  rw [show elemsQ = fun h => (rectQ h).set from funext setQ]
  exact Ring.lead_cover (s := S8x512x256) (0 : Fin 3) 1 (fun h : Fin 8 => ![h.val, 0, 0]) S1x512x256.size inbQ
    (fun b => (one_mul b.val).symm) (by decide) rfl (by decide) rfl
/-- Different slots of the output weights are disjoint. -/
theorem disjO (h h' : Fin 8) (hne : h ≠ h') : Disjoint (slotO h).view.set (slotO h').view.set := by
  rw [setO, setO]
  exact Ring.lead_disjoint (s := S8x256x512) (0 : Fin 3) 1 (fun h : Fin 8 => ![h.val, 0, 0]) S1x256x512.size inbO
    (fun b => (one_mul b.val).symm) rfl h h' hne
/-- The slots of the output weights cover the buffer. -/
theorem coverO : Finset.univ.biUnion elemsO = Finset.univ := by
  rw [show elemsO = fun h => (rectO h).set from funext setO]
  exact Ring.lead_cover (s := S8x256x512) (0 : Fin 3) 1 (fun h : Fin 8 => ![h.val, 0, 0]) S1x256x512.size inbO
    (fun b => (one_mul b.val).symm) (by decide) rfl (by decide) rfl
/-- The two buffers of the keys are disjoint. -/
theorem disjK (p p' : Fin 2) (hne : p ≠ p') : Disjoint (slotK p).view.set (slotK p').view.set := by
  rw [setK, setK]
  exact Ring.lead_disjoint (s := S2x2x256x256) (0 : Fin 4) 1 (fun p : Fin 2 => ![p.val, 0, 0, 0]) S1x2x256x256.size inbP
    (fun b => (one_mul b.val).symm) rfl p p' hne
/-- The two buffers of the keys cover the scratch buffer. -/
theorem coverK : Finset.univ.biUnion elemsK = Finset.univ := by
  rw [show elemsK = fun p => (rectP p).set from funext setK]
  exact Ring.lead_cover (s := S2x2x256x256) (0 : Fin 4) 1 (fun p : Fin 2 => ![p.val, 0, 0, 0]) S1x2x256x256.size inbP
    (fun b => (one_mul b.val).symm) (by decide) rfl (by decide) rfl

/-! ## Whole to slots, and slots to whole -/

/-- Either local buffer, its contents unknown. -/
def freeK (c : Dev nD) (p : Fin 2) : sProp 𝕄 :=
  iprop(∃ f, (slotK p).view.loc (c : Thread nD τ) ↦[(slotK p).view.set]{fullShare} f)
def freeV (c : Dev nD) (p : Fin 2) : sProp 𝕄 :=
  iprop(∃ f, (slotV p).view.loc (c : Thread nD τ) ↦[(slotV p).view.set]{fullShare} f)

/-- A buffer of a device held whole, its contents unknown. -/
abbrev whole (c : Dev nD) (b : Ref sig .tc) : sProp 𝕄 :=
  iprop(∃ f : Buf (Elt F) ((c : Thread nD τ).loc b), ((c : Thread nD τ).loc b) ↦{fullShare} f)

/-- A buffer whose parts tile it is held whole exactly when its parts are held. -/
theorem whole_parts {T : Type} [Fintype T] [DecidableEq T] (c : Dev nD) (b : Ref sig .tc)
    (I : T → Finset (Idx ((c : Thread nD τ).loc b))) (hd : ∀ t t', t ≠ t' → Disjoint (I t) (I t'))
    (hc : Finset.univ.biUnion I = Finset.univ) :
    (whole (F := F) c b) ⊣⊢ bigSep Finset.univ fun t => iprop(∃ f, ((c : Thread nD τ).loc b) ↦[I t]{fullShare} f) := by
  constructor
  · iintro ⟨%f, H⟩
    have hm : ∀ t ∈ Finset.univ, (((c : Thread nD τ).loc b) ↦[I t]{fullShare} f : sProp 𝕄)
        ⊢ iprop(∃ f, ((c : Thread nD τ).loc b) ↦[I t]{fullShare} f) := fun t _ => by
      iintro H; iexists f; iexact H
    iapply ((Entails.of_eq (Ring.pointsTo_blocks I hd hc f)).trans (bigSep_mono hm)) $$ H
  · exact Ring.pointsTo_blocks_join_exists I hd hc fun _ => Classical.choice inferInstance

/-- The gathered query weights' scratch buffer is its eight slots. -/
theorem whole_Q (c : Dev nD) : (whole (F := F) c cc0_scratch0) ⊣⊢ bigSep Finset.univ (freeQ (F := F) c) :=
  whole_parts c cc0_scratch0 (fun h : Fin 8 => (slotQ h).view.set) disjQ coverQ
/-- The gathered output weights' scratch buffer is its eight slots. -/
theorem whole_O (c : Dev nD) : (whole (F := F) c cc0_scratch1) ⊣⊢ bigSep Finset.univ (freeO (F := F) c) :=
  whole_parts c cc0_scratch1 (fun h : Fin 8 => (slotO h).view.set) disjO coverO
/-- The keys' scratch buffer is its two halves. -/
theorem whole_K (c : Dev nD) : (whole (F := F) c cc0_scratch2) ⊣⊢ bigSep Finset.univ (freeK (F := F) c) :=
  whole_parts c cc0_scratch2 (fun p : Fin 2 => (slotK p).view.set) disjK coverK
/-- The values' scratch buffer is its two halves. -/
theorem whole_V (c : Dev nD) : (whole (F := F) c cc0_scratch3) ⊣⊢ bigSep Finset.univ (freeV (F := F) c) :=
  whole_parts c cc0_scratch3 (fun p : Fin 2 => (slotV p).view.set) disjK coverK

/-- A filled slot of the query weights, its contents forgotten. -/
theorem heldQ_free (B : Blocks F) (c : Dev nD) (h : Fin 8) : heldQ B c h fullShare ⊢ freeQ (F := F) c h := by
  unfold heldQ freeQ owns; iintro ⟨%f, -, H⟩; iexists f; iexact H
/-- A filled slot of the output weights, its contents forgotten. -/
theorem heldO_free (B : Blocks F) (c : Dev nD) (h : Fin 8) : heldO B c h fullShare ⊢ freeO (F := F) c h := by
  unfold heldO freeO owns; iintro ⟨%f, -, H⟩; iexists f; iexact H

/-- A buffer held whole is held in two halves. -/
theorem halves {ℓ : Loc nD τ sig} (f : Buf (Elt F) ℓ) :
    (ℓ ↦{fullShare} f : sProp 𝕄) ⊣⊢ iprop((ℓ ↦{half 0} f) ∗ ℓ ↦{half 1} f) :=
  pointsTo_share (PosShare.mem_left_op_right fullShare)

/-- What a device needs of a scratch buffer at entry: the first slot, and the seven to be filled by transfers. -/
theorem slots_in (c : Dev nD) : iprop(whole (F := F) c cc0_scratch0 ∗ whole (F := F) c cc0_scratch1)
    ⊢ iprop((freeQ (F := F) c 0 ∗ freeO (F := F) c 0)
        ∗ (bigSep Finset.univ fun k : Fin 7 => freeQ (F := F) c k.succ) ∗ bigSep Finset.univ fun k : Fin 7 => freeO (F := F) c k.succ) := by
  iintro ⟨HQ, HO⟩
  ihave HQ := (whole_Q c).1 $$ HQ
  ihave HO := (whole_O c).1 $$ HO
  ihave HQ := (Entails.of_eq (bigSep_first (freeQ (F := F) c))) $$ HQ
  ihave HO := (Entails.of_eq (bigSep_first (freeO (F := F) c))) $$ HO
  icases HQ with ⟨Q0, Q⟩
  icases HO with ⟨O0, O⟩
  isplitl [Q0 O0]
  · isplitl [Q0]; · iexact Q0
    iexact O0
  isplitl [Q]; · iexact Q
  iexact O

/-- What it gives back: the slots it sent, and the last. -/
theorem slots_out (c : Dev nD) :
    iprop((freeQ (F := F) c 7 ∗ freeO (F := F) c 7)
        ∗ (bigSep Finset.univ fun k : Fin 7 => freeQ (F := F) c k.castSucc) ∗ bigSep Finset.univ fun k : Fin 7 => freeO (F := F) c k.castSucc)
      ⊢ iprop(whole (F := F) c cc0_scratch0 ∗ whole (F := F) c cc0_scratch1) := by
  iintro ⟨⟨Q7, O7⟩, Q, O⟩
  isplitl [Q7 Q]
  · iapply (whole_Q c).2
    iapply (Entails.of_eq (bigSep_last (freeQ (F := F) c)).symm)
    isplitl [Q7]; · iexact Q7
    iexact Q
  · iapply (whole_O c).2
    iapply (Entails.of_eq (bigSep_last (freeO (F := F) c)).symm)
    isplitl [O7]; · iexact O7
    iexact O

/-- The local buffers, their semaphores and their halves of the arrays in memory. -/
def idles (B : Blocks F) (c : Dev nD) : sProp 𝕄 :=
  iprop(idleK B c 0 ∗ idleV B c 0 ∗ idleK B c 1 ∗ idleV B c 1)
/-- The same as a device receives them. -/
def locals (B : Blocks F) (c : Dev nD) : sProp 𝕄 :=
  iprop((((c : Thread nD τ).loc main_v1 ↦{fullShare} B.k c) ∗ ((c : Thread nD τ).loc main_v2 ↦{fullShare} B.v c))
    ∗ (bigSep Finset.univ (fun p : Fin 2 => semVal (ksm c p) 0) ∗ bigSep Finset.univ fun p : Fin 2 => semVal (vsm c p) 0)
    ∗ whole (F := F) c cc0_scratch2 ∗ whole (F := F) c cc0_scratch3)

/-- What a device receives for its local copies is its local buffers at rest, and the other way round. -/
theorem idles_locals (B : Blocks F) (c : Dev nD) : locals B c ⊣⊢ idles B c := by
  have h1 : (bigSep Finset.univ (fun p : Fin 2 => semVal (ksm c p) 0) : sProp 𝕄) = iprop(semVal (ksm c 0) 0 ∗ semVal (ksm c 1) 0) :=
    bigSep_two _
  have h2 : (bigSep Finset.univ (fun p : Fin 2 => semVal (vsm c p) 0) : sProp 𝕄) = iprop(semVal (vsm c 0) 0 ∗ semVal (vsm c 1) 0) :=
    bigSep_two _
  unfold locals idles idleK idleV
  rw [h1, h2]
  constructor
  · iintro ⟨⟨M1, M2⟩, ⟨⟨K0, K1⟩, ⟨V0, V1⟩⟩, WK, WV⟩
    ihave WK := ((whole_K c).1.trans (Entails.of_eq (bigSep_two (freeK (F := F) c)))) $$ WK
    ihave WV := ((whole_V c).1.trans (Entails.of_eq (bigSep_two (freeV (F := F) c)))) $$ WV
    ihave M1 := (halves (F := F) _).1 $$ M1
    ihave M2 := (halves (F := F) _).1 $$ M2
    icases WK with ⟨A0, A1⟩
    icases WV with ⟨B0, B1⟩
    icases M1 with ⟨M10, M11⟩
    icases M2 with ⟨M20, M21⟩
    isplitl [A0 K0 M10]
    · isplitl [A0]; · unfold freeK; iexact A0
      isplitl [K0]; · iexact K0
      iexact M10
    isplitl [B0 V0 M20]
    · isplitl [B0]; · unfold freeV; iexact B0
      isplitl [V0]; · iexact V0
      iexact M20
    isplitl [A1 K1 M11]
    · isplitl [A1]; · unfold freeK; iexact A1
      isplitl [K1]; · iexact K1
      iexact M11
    isplitl [B1]; · unfold freeV; iexact B1
    isplitl [V1]; · iexact V1
    iexact M21
  · iintro ⟨⟨A0, K0, M10⟩, ⟨B0, V0, M20⟩, ⟨A1, K1, M11⟩, ⟨B1, V1, M21⟩⟩
    isplitl [M10 M11 M20 M21]
    · isplitl [M10 M11]
      · iapply (halves (F := F) _).2; isplitl [M10]; · iexact M10
        iexact M11
      · iapply (halves (F := F) _).2; isplitl [M20]; · iexact M20
        iexact M21
    isplitl [K0 K1 V0 V1]
    · isplitl [K0 K1]
      · isplitl [K0]; · iexact K0
        iexact K1
      · isplitl [V0]; · iexact V0
        iexact V1
    isplitl [A0 A1]
    · iapply ((Entails.of_eq (bigSep_two (freeK (F := F) c)).symm).trans (whole_K c).2)
      unfold freeK
      isplitl [A0]; · iexact A0
      iexact A1
    · iapply ((Entails.of_eq (bigSep_two (freeV (F := F) c)).symm).trans (whole_V c).2)
      unfold freeV
      isplitl [B0]; · iexact B0
      iexact B1

end Cert.KernelIdeal.Ring

end
-- ==== Proof.Ring.Deal.lean ====
module

public import proofs.«01_k».proof.Proof.Ring.Memory
public import Idealize.ShloMosaic.Lib.Pipeline.Kit
public import Idealize.ShloMosaic.Lib.Pipeline.Regions

@[expose] public section

noncomputable section

/-! # What the launch deals each device

The ring's cells are put under their invariants once, for all devices; every device then receives its turns, its
credit, and the right to open its own cells when the kernel starts. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Facts₀ Facts

variable {F : FTy → Type} [FloatOps F]

local notation "𝕄" => MT nD τ sig Unit (Elt F) ℕ UU ℕ

/-! ## The neighbours as permutations of the devices -/

/-- The right neighbour, as a permutation. -/
def nxtE : Dev nD ≃ Dev nD := ⟨nxt, prv, prv_nxt, nxt_prv⟩

/-- A share for every device is a share for every device's right neighbour. -/
theorem bigSep_nxt (Φ : Dev nD → sProp 𝕄) : bigSep Finset.univ Φ = bigSep Finset.univ fun c => Φ (nxt c) :=
  bigSep_univ_equiv nxtE Φ
/-- A share for every device is a share for every device's left neighbour. -/
theorem bigSep_prv (Φ : Dev nD → sProp 𝕄) : bigSep Finset.univ Φ = bigSep Finset.univ fun c => Φ (prv c) :=
  bigSep_univ_equiv nxtE.symm Φ
/-- A share for each of the four kinds of semaphore, written out. -/
theorem bigSep_kinds (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The turns -/

/-- The two turns on each barrier, and the one on each transfer's semaphore. -/
def tokBar (d : Bool) : Dev nD ↪ GSem nD τ sig × ℕ × Bool :=
  ⟨fun c => (bar c, 0, d), fun _ _ e => bar_inj (Prod.mk.inj e).1⟩
def tokX : Dev nD × Fin 4 × Fin 7 ↪ GSem nD τ sig × ℕ × Bool :=
  ⟨fun t => (xcell t, 0, false), fun _ _ e => xcell_inj (Prod.mk.inj e).1⟩
def toks : Finset (GSem nD τ sig × ℕ × Bool) :=
  Finset.univ.map (tokBar true) ∪ (Finset.univ.map (tokBar false) ∪ Finset.univ.map tokX)

/-- A barrier is not a transfer's semaphore. -/
theorem bar_ne_xcell (c : Dev nD) (t : Dev nD × Fin 4 × Fin 7) : bar c ≠ xcell t := fun e => by
  obtain ⟨s, hs, -⟩ := xcell_eq t
  rw [hs] at e
  cases (Prod.mk.inj e).2

/-- The barriers and the transfers' semaphores are disjoint. -/
theorem cells_disjoint : Disjoint barCells xferCells := Finset.disjoint_left.mpr fun g hg hg' => by
  obtain ⟨c, -, rfl⟩ := Finset.mem_map.mp hg
  obtain ⟨t, -, e⟩ := Finset.mem_map.mp hg'
  exact bar_ne_xcell c t e.symm

/-- The second turns on the barriers are not among the turns on the transfers' semaphores. -/
theorem toks_disjoint : Disjoint (Finset.univ.map (tokBar false)) (Finset.univ.map tokX) :=
  Finset.disjoint_left.mpr fun g hg hg' => by
    obtain ⟨c, -, rfl⟩ := Finset.mem_map.mp hg
    obtain ⟨t, -, e⟩ := Finset.mem_map.mp hg'
    exact bar_ne_xcell c t (Prod.mk.inj e).1.symm

/-- The first turns on the barriers are not among the other turns. -/
theorem toks_disjoint' :
    Disjoint (Finset.univ.map (tokBar true)) (Finset.univ.map (tokBar false) ∪ Finset.univ.map tokX) :=
  Finset.disjoint_left.mpr fun g hg hg' => by
    obtain ⟨c, -, rfl⟩ := Finset.mem_map.mp hg
    rcases Finset.mem_union.mp hg' with h | h
    · obtain ⟨t, -, e⟩ := Finset.mem_map.mp h
      cases (Prod.mk.inj (Prod.mk.inj e).2).2
    · obtain ⟨t, -, e⟩ := Finset.mem_map.mp h
      exact bar_ne_xcell c t (Prod.mk.inj e).1.symm

/-- A device's turns for hop `k`: its own departures, and the arrivals at its right neighbour. -/
def hopToks (c : Dev nD) (k : Fin 7) : sProp 𝕄 :=
  iprop(dutyTok ER (ssq c k.castSucc) 0 false ∗ dutyTok ER (sso c k.castSucc) 0 false
    ∗ dutyTok ER (rsq (nxt c) k.succ) 0 false ∗ dutyTok ER (rso (nxt c) k.succ) 0 false)
/-- What lets it wait for the arrivals of hop `k`. -/
def hopCred (c : Dev nD) (k : Fin 7) : sProp 𝕄 :=
  iprop(cred (tallyAt (rsq c k.succ) () NQ) ∗ cred (tallyAt (rso c k.succ) () NO))

/-- The two middle ones of four shares change places. -/
theorem swap_mid (P R S T : sProp 𝕄) : iprop(P ∗ R ∗ S ∗ T) = iprop(P ∗ S ∗ R ∗ T) := by
  have h (P R S T : sProp 𝕄) : iprop(P ∗ R ∗ S ∗ T) ⊢ iprop(P ∗ S ∗ R ∗ T) := by
    iintro ⟨H1, H2, H3, H4⟩
    isplitl [H1]; · iexact H1
    isplitl [H3]; · iexact H3
    isplitl [H2]; · iexact H2
    iexact H4
  exact BI.Entails.antisymm (h P R S T) (h P S R T)

/-- All turns, dealt device by device to those who take them. -/
theorem toks_deal :
    (bigSep toks fun x => dutyTok (ER (F := F)) x.1 x.2.1 x.2.2 : sProp 𝕄)
      = iprop((bigSep Finset.univ fun c : Dev nD => dutyTok ER (bar (prv c)) 0 true)
          ∗ (bigSep Finset.univ fun c : Dev nD => dutyTok ER (bar (nxt c)) 0 false)
          ∗ bigSep Finset.univ fun c : Dev nD => bigSep Finset.univ (hopToks (F := F) c)) := by
  have hX : (bigSep (Finset.univ.map tokX) fun x => dutyTok (ER (F := F)) x.1 x.2.1 x.2.2 : sProp 𝕄)
      = bigSep Finset.univ fun c : Dev nD => bigSep Finset.univ (hopToks (F := F) c) := by
    rw [BI.bigSep_map, bigSep_univ_prod]
    have h1 (c : Dev nD) : (bigSep Finset.univ fun p : Fin 4 × Fin 7 => dutyTok (ER (F := F)) (tokX (c, p)).1 (tokX (c, p)).2.1 (tokX (c, p)).2.2 : sProp 𝕄)
        = iprop((bigSep Finset.univ fun k : Fin 7 => dutyTok ER (ssq c k.castSucc) 0 false)
          ∗ (bigSep Finset.univ fun k : Fin 7 => dutyTok ER (rsq c k.succ) 0 false)
          ∗ (bigSep Finset.univ fun k : Fin 7 => dutyTok ER (sso c k.castSucc) 0 false)
          ∗ bigSep Finset.univ fun k : Fin 7 => dutyTok ER (rso c k.succ) 0 false) := by
      rw [bigSep_univ_prod, bigSep_kinds]; rfl
    have h2 (c : Dev nD) : (bigSep Finset.univ (hopToks (F := F) c) : sProp 𝕄)
        = iprop((bigSep Finset.univ fun k : Fin 7 => dutyTok ER (ssq c k.castSucc) 0 false)
          ∗ (bigSep Finset.univ fun k : Fin 7 => dutyTok ER (sso c k.castSucc) 0 false)
          ∗ (bigSep Finset.univ fun k : Fin 7 => dutyTok ER (rsq (nxt c) k.succ) 0 false)
          ∗ bigSep Finset.univ fun k : Fin 7 => dutyTok ER (rso (nxt c) k.succ) 0 false) := by
      unfold hopToks
      rw [bigSep_sep', bigSep_sep', bigSep_sep']
    simp only [h1, h2]
    rw [bigSep_sep', bigSep_sep', bigSep_sep', bigSep_sep', bigSep_sep', bigSep_sep',
      bigSep_nxt (fun c : Dev nD => bigSep Finset.univ fun k : Fin 7 => dutyTok (ER (F := F)) (rsq c k.succ) 0 false),
      bigSep_nxt (fun c : Dev nD => bigSep Finset.univ fun k : Fin 7 => dutyTok (ER (F := F)) (rso c k.succ) 0 false)]
    exact swap_mid _ _ _ _
  rw [toks, bigSep_union toks_disjoint', bigSep_union toks_disjoint, hX, BI.bigSep_map, BI.bigSep_map]
  rw [bigSep_prv (fun c : Dev nD => dutyTok (ER (F := F)) (tokBar true c).1 (tokBar true c).2.1 (tokBar true c).2.2),
    bigSep_nxt (fun c : Dev nD => dutyTok (ER (F := F)) (tokBar false c).1 (tokBar false c).2.1 (tokBar false c).2.2)]
  rfl

/-! ## The credit -/

/-- Credit for a sum of tallies is credit for each. -/
theorem cred_add_eq (a b : CellTallies nD τ sig Unit) : (cred (a + b) : sProp 𝕄) = iprop(cred a ∗ cred b) :=
  BI.Entails.antisymm (cred_add _ _).1 (cred_add _ _).2
/-- Credit for a finite sum of tallies is credit for each of them. -/
theorem cred_finsum {α : Type} [DecidableEq α] (s : Finset α) (f : α → CellTallies nD τ sig Unit) :
    (cred (∑ x ∈ s, f x) : sProp 𝕄) = bigSep s fun x => cred (f x) := by
  induction s using Finset.induction_on with
  | empty => rw [Finset.sum_empty, cred_zero, bigSep_empty]; rfl
  | insert x s hx ih => rw [Finset.sum_insert hx, cred_add_eq, bigSep_insert hx, ih]; rfl

/-- What the devices together owe one device. -/
def owed (c : Dev nD) : CellTallies nD τ sig Unit :=
  ((∑ k : Fin 7, (tallyAt (rso c k.succ) () NO + tallyAt (rsq c k.succ) () NQ)) + tallyAt (bar c) () 1) + tallyAt (bar c) () 1

/-- All that is owed for the hops, as a sum over the seven hops. -/
theorem dues_owed (c : Dev nD) :
    dues c 0 = ∑ k : Fin 7, (tallyAt (rso (nxt c) k.succ) () NO + tallyAt (rsq (nxt c) k.succ) () NQ) := by
  unfold dues due
  rw [Nat.Ico_zero_eq_range, ← Fin.sum_univ_eq_sum_range
    (fun i => (tallyAt (rso (nxt c) (up i)) () NO + tallyAt (rsq (nxt c) (up i)) () NQ : CellTallies nD τ sig Unit))]
  refine Finset.sum_congr rfl fun k _ => ?_
  rw [show up k.val = k.succ from up_eq k.castSucc k.succ rfl]

/-- All that the devices owe is all that is owed to the devices. -/
theorem sum_owe : (∑ c : Dev nD, owe c) = ∑ c : Dev nD, owed c := by
  unfold owe owed
  simp only [dues_owed]
  rw [Finset.sum_add_distrib, Finset.sum_add_distrib, Finset.sum_add_distrib, Finset.sum_add_distrib]
  rw [Equiv.sum_comp nxtE (fun c => ∑ k : Fin 7, (tallyAt (rso c k.succ) () NO + tallyAt (rsq c k.succ) () NQ : CellTallies nD τ sig Unit)) |>.symm,
    Equiv.sum_comp nxtE (fun c => (tallyAt (bar c) () 1 : CellTallies nD τ sig Unit)) |>.symm]
  congr 1
  exact (Equiv.sum_comp nxtE.symm (fun c => (tallyAt (bar c) () 1 : CellTallies nD τ sig Unit))).trans
    (Equiv.sum_comp nxtE (fun c => (tallyAt (bar c) () 1 : CellTallies nD τ sig Unit))).symm

/-- What is owed to a device lies in that device's own cells. -/
theorem owed_at (c : Dev nD) (g : GSem nD τ sig) (h : owed c g ≠ 0) : g.1 = (c : Thread nD τ) := by
  by_contra hne
  apply h
  have hz (g' : GSem nD τ sig) (n : ℕ) (hg : g'.1 = (c : Thread nD τ)) : (tallyAt g' () n : CellTallies nD τ sig Unit) g = 0 := by
    refine tallyAt_ne_cell (fun e => hne ?_) () n
    rw [e]; exact hg
  unfold owed
  rw [Pi.add_apply, Pi.add_apply, Finset.sum_apply, hz _ _ rfl, add_zero, add_zero]
  refine Finset.sum_eq_zero fun k _ => ?_
  rw [Pi.add_apply, hz _ _ rfl, hz _ _ rfl, add_zero]

/-- A device's share of the launch credit: for its barrier, and for the arrivals of every hop. -/
theorem cred_deal (c : Dev nD) :
    (Pipeline.launchCred owe c : sProp 𝕄) = iprop(cred (tallyAt (bar c) () 2) ∗ bigSep Finset.univ (hopCred (F := F) c)) := by
  rw [Pipeline.launchCred_of_sum owe owed sum_owe owed_at c]
  have h2 : owed c = tallyAt (bar c) () 2 + ∑ k : Fin 7, (tallyAt (rsq c k.succ) () NQ + tallyAt (rso c k.succ) () NO) := by
    unfold owed
    rw [add_assoc, tallyAt_add, add_comm]
    simp only [add_comm (tallyAt (rso c _) () NO : CellTallies nD τ sig Unit)]
  rw [h2, cred_add_eq, cred_finsum]
  simp only [cred_add_eq]
  rfl

/-! ## The deal -/

variable (B : Blocks F)

/-- What every device knows: all invariants, and that every barrier is at its start. -/
def known : sProp 𝕄 := iprop((∃ κ, ringInv B κ) ∗ bigSep Finset.univ fun n : Dev nD => reached ER (bar n) 0)

instance known_persistent : BI.Persistent (known B) := by unfold known; infer_instance

/-- A device's part in the handshake. -/
def shake (c : Dev nD) : sProp 𝕄 :=
  iprop(dutyTok ER (bar (prv c)) 0 true ∗ dutyTok ER (bar (nxt c)) 0 false ∗ cred (tallyAt (bar c) () 2)
    ∗ atPos ER (bar c) 0 ∅ 0)
/-- Its part in the transfers: the right to open its cells, its turns, its credit. -/
def turns (c : Dev nD) : sProp 𝕄 :=
  iprop((bigSep Finset.univ fun t : Fin 4 × Fin 7 => openTok ER (xcell (c, t)))
    ∗ bigSep Finset.univ (hopToks (F := F) c) ∗ bigSep Finset.univ (hopCred (F := F) c))

/-- What the launch deals device `c`. -/
def deal (c : Dev nD) : sProp 𝕄 := iprop(known B ∗ shake (F := F) c ∗ turns (F := F) c)

/-- The launch: every barrier at zero, the credit and the ring's records become what each device is dealt. -/
theorem fund :
    iprop((bigSep Finset.univ fun c : Dev nD => iprop(semVal (bar c) 0 ∗ Pipeline.launchCred owe c))
        ∗ BI.own (ER (F := F) (launchOf barCells xferCells toks)))
      ⊢ iprop(|={Set.univ}=> bigSep Finset.univ (deal B)) := by
  have hc (c : Dev nD) (_ : c ∈ Finset.univ) :
      iprop(known B ∗ (shake (F := F) c ∗ turns (F := F) c)) ⊢ deal B c := .rfl
  have hbar (Φ : GSem nD τ sig → sProp 𝕄) : bigSep barCells Φ = bigSep Finset.univ fun c : Dev nD => Φ (bar c) := BI.bigSep_map _
  have hxfer (Φ : GSem nD τ sig → sProp 𝕄) : bigSep xferCells Φ
      = bigSep Finset.univ fun c : Dev nD => bigSep Finset.univ fun t : Fin 4 × Fin 7 => Φ (xcell (c, t)) :=
    (BI.bigSep_map _).trans (bigSep_univ_prod _)
  have hcr : (bigSep Finset.univ fun c : Dev nD => iprop(semVal (bar c) 0 ∗ Pipeline.launchCred owe c) : sProp 𝕄)
      = iprop((bigSep Finset.univ fun c : Dev nD => semVal (bar c) 0)
        ∗ (bigSep Finset.univ fun c : Dev nD => cred (tallyAt (bar c) () 2))
        ∗ bigSep Finset.univ fun c : Dev nD => bigSep Finset.univ (hopCred (F := F) c)) := by
    rw [bigSep_sep', bigSep_congr fun c _ => cred_deal (F := F) c, bigSep_sep']
  have hall : iprop(known B
        ∗ ((bigSep Finset.univ fun c : Dev nD => dutyTok (ER (F := F)) (bar (prv c)) 0 true)
          ∗ (bigSep Finset.univ fun c : Dev nD => dutyTok (ER (F := F)) (bar (nxt c)) 0 false)
          ∗ (bigSep Finset.univ fun c : Dev nD => cred (tallyAt (bar c) () 2))
          ∗ bigSep Finset.univ fun c : Dev nD => atPos (ER (F := F)) (bar c) 0 ∅ 0)
        ∗ (bigSep Finset.univ fun c : Dev nD => bigSep Finset.univ fun t : Fin 4 × Fin 7 => openTok (ER (F := F)) (xcell (c, t)))
        ∗ (bigSep Finset.univ fun c : Dev nD => bigSep Finset.univ (hopToks (F := F) c))
        ∗ bigSep Finset.univ fun c : Dev nD => bigSep Finset.univ (hopCred (F := F) c))
      ⊢ bigSep Finset.univ (deal B) := by
    rw [← bigSep_sep', ← bigSep_sep', ← bigSep_sep', ← bigSep_sep', ← bigSep_sep', ← bigSep_sep']
    exact bigSep_with_persistent (R := known B) hc
  rw [hcr]
  iintro ⟨⟨Hv, Hc, Hh⟩, Hu⟩
  ihave Hv := (Entails.of_eq (hbar fun g => semVal g 0).symm) $$ Hv
  imod (fund_launch ER (sched B) cells_disjoint (fun g _ h => h) toks (Es := Set.univ)) $$ [Hv Hu] with ⟨%κ, -, #HI, #Hr, Hat, Hop, Htok⟩
  · isplitl [Hv]; · iexact Hv
    iexact Hu
  imodintro
  ihave Hr := (Entails.of_eq (hbar fun g => reached ER g 0)) $$ Hr
  ihave Hat := (Entails.of_eq (hbar fun g => atPos ER g 0 ∅ 0)) $$ Hat
  ihave Hop := (Entails.of_eq (hxfer fun g => openTok ER g)) $$ Hop
  ihave Htok := (Entails.of_eq (toks_deal (F := F))) $$ Htok
  icases Htok with ⟨T1, T2, T3⟩
  iapply hall
  isplitr
  · unfold known
    isplitr; · iexists κ; unfold ringInv; iexact HI
    iexact Hr
  isplitl [T1 T2 Hc Hat]
  · isplitl [T1]; · iexact T1
    isplitl [T2]; · iexact T2
    isplitl [Hc]; · iexact Hc
    iexact Hat
  isplitl [Hop]; · iexact Hop
  isplitl [T3]; · iexact T3
  iexact Hh

/-! ## At the kernel's entry -/

/-- What a device knows of its own arrival cells once they are open. -/
def opened (c : Dev nD) (k : Fin 7) : sProp 𝕄 := iprop(reached (ER (F := F)) (rsq c k.succ) 0 ∗ reached ER (rso c k.succ) 0)

/-- Opening its cells, a device has what it needs for every hop. -/
theorem open_cells (κ : GSem nD τ sig → ℕ) (c : Dev nD) :
    iprop(ringInv B κ ∗ turns (F := F) c ∗ bigSep Finset.univ fun t : Fin 4 × Fin 7 => semVal (xcell (c, t)) 0)
      ⊢ iprop(|={Set.univ}=> (bigSep Finset.univ (todo (F := F) c) ∗ bigSep Finset.univ (opened (F := F) c))) := by
  have h1 (t : Fin 4 × Fin 7) (_ : t ∈ Finset.univ) :
      iprop(ringInv B κ ∗ (openTok ER (xcell (c, t)) ∗ semVal (xcell (c, t)) 0))
        ⊢ (iprop(|={Set.univ}=> (atPos ER (xcell (c, t)) 0 ∅ 0 ∗ reached ER (xcell (c, t)) 0)) : sProp 𝕄) := by
    iintro ⟨#HI, Ho, Hv⟩
    ihave Hi := (ringInv_elim B κ (xcell_mem (c, t))) $$ HI
    iapply (cell_open ER (sched B) (κ := κ (xcell (c, t))) (Set.mem_univ _))
    isplitl [Hi]; · iexact Hi
    isplitl [Ho]; · iexact Ho
    iexact Hv
  have h2 (k : Fin 7) (_ : k ∈ Finset.univ) :
      iprop((atPos (ER (F := F)) (ssq c k.castSucc) 0 ∅ 0 ∗ reached ER (ssq c k.castSucc) 0)
          ∗ (atPos ER (rsq c k.succ) 0 ∅ 0 ∗ reached ER (rsq c k.succ) 0)
          ∗ (atPos ER (sso c k.castSucc) 0 ∅ 0 ∗ reached ER (sso c k.castSucc) 0)
          ∗ (atPos ER (rso c k.succ) 0 ∅ 0 ∗ reached ER (rso c k.succ) 0)
          ∗ hopToks (F := F) c k ∗ hopCred (F := F) c k)
        ⊢ iprop(todo (F := F) c k ∗ opened (F := F) c k) := by
    unfold hopToks hopCred todo opened
    iintro ⟨⟨A1, R1⟩, ⟨A2, R2⟩, ⟨A3, R3⟩, ⟨A4, R4⟩, ⟨T1, T2, T3, T4⟩, ⟨C1, C2⟩⟩
    isplitl [A1 R1 A2 A3 R3 A4 T1 T2 T3 T4 C1 C2]
    · isplitl [T1]; · iexact T1
      isplitl [T2]; · iexact T2
      isplitl [T3]; · iexact T3
      isplitl [T4]; · iexact T4
      isplitl [R1]; · iexact R1
      isplitl [R3]; · iexact R3
      isplitl [A1]; · iexact A1
      isplitl [A3]; · iexact A3
      isplitl [A2]; · iexact A2
      isplitl [A4]; · iexact A4
      isplitl [C1]; · iexact C1
      iexact C2
    isplitl [R2]; · iexact R2
    iexact R4
  have h3 : (bigSep Finset.univ fun t : Fin 4 × Fin 7 => iprop(atPos (ER (F := F)) (xcell (c, t)) 0 ∅ 0 ∗ reached ER (xcell (c, t)) 0) : sProp 𝕄)
      = iprop((bigSep Finset.univ fun k : Fin 7 => iprop(atPos ER (ssq c k.castSucc) 0 ∅ 0 ∗ reached ER (ssq c k.castSucc) 0))
          ∗ (bigSep Finset.univ fun k : Fin 7 => iprop(atPos ER (rsq c k.succ) 0 ∅ 0 ∗ reached ER (rsq c k.succ) 0))
          ∗ (bigSep Finset.univ fun k : Fin 7 => iprop(atPos ER (sso c k.castSucc) 0 ∅ 0 ∗ reached ER (sso c k.castSucc) 0))
          ∗ bigSep Finset.univ fun k : Fin 7 => iprop(atPos ER (rso c k.succ) 0 ∅ 0 ∗ reached ER (rso c k.succ) 0)) := by
    rw [bigSep_univ_prod, bigSep_kinds]; rfl
  have h4 : iprop((bigSep Finset.univ fun k : Fin 7 => iprop(atPos (ER (F := F)) (ssq c k.castSucc) 0 ∅ 0 ∗ reached ER (ssq c k.castSucc) 0))
          ∗ (bigSep Finset.univ fun k : Fin 7 => iprop(atPos (ER (F := F)) (rsq c k.succ) 0 ∅ 0 ∗ reached ER (rsq c k.succ) 0))
          ∗ (bigSep Finset.univ fun k : Fin 7 => iprop(atPos (ER (F := F)) (sso c k.castSucc) 0 ∅ 0 ∗ reached ER (sso c k.castSucc) 0))
          ∗ (bigSep Finset.univ fun k : Fin 7 => iprop(atPos (ER (F := F)) (rso c k.succ) 0 ∅ 0 ∗ reached ER (rso c k.succ) 0))
          ∗ bigSep Finset.univ (hopToks (F := F) c) ∗ bigSep Finset.univ (hopCred (F := F) c))
      ⊢ (iprop(bigSep Finset.univ (todo (F := F) c) ∗ bigSep Finset.univ (opened (F := F) c)) : sProp 𝕄) := by
    rw [← bigSep_sep', ← bigSep_sep', ← bigSep_sep', ← bigSep_sep', ← bigSep_sep', ← bigSep_sep']
    exact bigSep_mono h2
  have h5 : iprop(ringInv B κ ∗ (bigSep Finset.univ fun t : Fin 4 × Fin 7 => openTok (ER (F := F)) (xcell (c, t)))
        ∗ bigSep Finset.univ fun t : Fin 4 × Fin 7 => semVal (xcell (c, t)) 0)
      ⊢ (iprop(|={Set.univ}=> bigSep Finset.univ fun t : Fin 4 × Fin 7 => iprop(atPos (ER (F := F)) (xcell (c, t)) 0 ∅ 0 ∗ reached ER (xcell (c, t)) 0)) : sProp 𝕄) := by
    rw [← bigSep_sep']
    exact (bigSep_with_persistent (R := ringInv B κ) h1).trans (bigSep_fupd _ _)
  unfold turns
  iintro ⟨#HI, ⟨Ho, Ht, Hc⟩, Hv⟩
  imod h5 $$ [Ho Hv] with H
  · isplitr; · iexact HI
    isplitl [Ho]; · iexact Ho
    iexact Hv
  imodintro
  ihave H := (Entails.of_eq h3) $$ H
  icases H with ⟨H1, H2, H3, H4⟩
  iapply h4
  isplitl [H1]; · iexact H1
  isplitl [H2]; · iexact H2
  isplitl [H3]; · iexact H3
  isplitl [H4]; · iexact H4
  isplitl [Ht]; · iexact Ht
  iexact Hc

end Cert.KernelIdeal.Ring

end
-- ==== Proof.Ring.Same.lean ====
module

public import proofs.«01_k».proof.Proof.Ring.Program

@[expose] public section

noncomputable section

/-! # The printed body is the repeated hop -/

namespace Cert.KernelIdeal.Ring

open Idealize.ShloMosaic Idealize.SL.Sem
open Facts₀ Facts

variable {F : FTy → Type} [FloatOps F]

set_option maxRecDepth 65536 in
set_option maxHeartbeats 0 in
/-- The printed body, at the kernel's buffers, is the program written hop by hop. -/
theorem body_eq :
    Gen.cc0_body_skel (F := F) memX (hstage0_0 0) memWq (hstage0_1 0) hbmK (Memref.isWhole_whole _) hbmV
      (Memref.isWhole_whole _) memWo (hstage0_2 0) memOut (hstage0_3 0) memQ (Memref.isWhole_whole _) memO
      (Memref.isWhole_whole _) memK (Memref.isWhole_whole _) memV (Memref.isWhole_whole _)
      cc0_scratch4 cc0_scratch5 cc0_scratch6 cc0_scratch7 cc0_scratch8 cc0_scratch9 = body := rfl

end Cert.KernelIdeal.Ring
-- ==== Proof.Ring.Entry.lean ====
module

public import proofs.«01_k».proof.Proof.Ring.Deal
public import proofs.«01_k».proof.Proof.Ring.Same
public import proofs.«01_k».proof.Proof.Gen.KernelIdeal.Frame

@[expose] public section

noncomputable section

/-! # Entering and leaving the kernel

The kernel's data at the region: what its windows hold, what a device holds when its body starts and when it ends, and
how that is made from, and turned back into, the scratch buffers and semaphores. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (BodyObligation)
open Facts₀ Facts

variable {F : FTy → Type} [FloatOps F]

local notation "𝕄" => MT nD τ sig Unit (Elt F) ℕ UU ℕ

/-! ## The semaphores of the kernel's own -/

abbrev OwnSem : Type := (Fin 2 ⊕ Fin 2) ⊕ (Fin 4 × Fin 7)
/-- The semaphores of the local copies, and those of the transfers. -/
def osem : OwnSem → SemLoc sig
  | .inl (.inl p) => .dma (semAt2 cc0_scratch4 p)
  | .inl (.inr p) => .dma (semAt2 cc0_scratch5 p)
  | .inr t => (xcell (0, t)).2

/-- The kernel's own semaphores are distinct from one another and from those of the staging buffers. -/
theorem osem_facts : Pipeline.OwnSemFacts spec0 osem := by decide +kernel

/-- A transfer's cell on a device is that device's own semaphore of that kind and hop. -/
theorem xcell_osem (c : Dev nD) (t : Fin 4 × Fin 7) : xcell (c, t) = ((c : Thread nD τ), osem (.inr t)) := by
  obtain ⟨j, k⟩ := t
  fin_cases j <;> rfl

/-- The kernel's own semaphores at zero: those of the local copies, and those of the transfers. -/
theorem ownSems_eq (c : Dev nD) :
    (Pipeline.ownSems0 osem c : sProp 𝕄)
      = iprop(((bigSep Finset.univ fun p : Fin 2 => semVal (ksm c p) 0) ∗ bigSep Finset.univ fun p : Fin 2 => semVal (vsm c p) 0)
        ∗ bigSep Finset.univ fun t : Fin 4 × Fin 7 => semVal (xcell (c, t)) 0) := by
  unfold Pipeline.ownSems0
  rw [bigSep_univ_sum, bigSep_univ_sum]
  simp only [xcell_osem]
  rfl

/-! ## What a device holds -/

variable (B : Blocks F)

/-- What the launch's deal has become once the device's cells are open. -/
def arrived (c : Dev nD) : sProp 𝕄 :=
  iprop((∃ κ, ringInv B κ) ∗ levAts L lv ∗ (shake (F := F) c ∗ reached ER (bar (prv c)) 0 ∗ reached ER (bar (nxt c)) 0)
    ∗ bigSep Finset.univ (todo (F := F) c) ∗ bigSep Finset.univ (opened (F := F) c))

/-- The keys and values in memory. -/
def kept (c : Dev nD) : sProp 𝕄 :=
  iprop(((c : Thread nD τ).loc main_v1 ↦{fullShare} B.k c) ∗ ((c : Thread nD τ).loc main_v2 ↦{fullShare} B.v c))
def localSems (c : Dev nD) : sProp 𝕄 :=
  iprop((bigSep Finset.univ fun p : Fin 2 => semVal (ksm c p) 0) ∗ bigSep Finset.univ fun p : Fin 2 => semVal (vsm c p) 0)

/-- Before the body: everything but the staging buffers and what it owes. -/
def ready (c : Dev nD) : sProp 𝕄 :=
  iprop((∃ κ, ringInv B κ) ∗ levAts L lv ∗ handshake (F := F) c ∗ idles B c ∗ (freeQ (F := F) c 0 ∗ freeO (F := F) c 0)
    ∗ bigSep Finset.univ (todo (F := F) c))
/-- After it. -/
def done (c : Dev nD) : sProp 𝕄 :=
  iprop(idles B c ∗ (heldQ B c 7 fullShare ∗ heldO B c 7 fullShare) ∗ bigSep Finset.univ (spent B c) ∗ semVal (bar c) 0)

/-- The four scratch buffers. -/
def scratch (c : Dev nD) : sProp 𝕄 :=
  iprop(whole (F := F) c cc0_scratch0 ∗ whole (F := F) c cc0_scratch1 ∗ whole (F := F) c cc0_scratch2 ∗ whole (F := F) c cc0_scratch3)

/-- With its share of the deal and its transfers' semaphores at zero, a device opens its cells. -/
theorem arrive (c : Dev nD) :
    iprop(deal B c ∗ levAts L lv ∗ bigSep Finset.univ fun t : Fin 4 × Fin 7 => semVal (xcell (c, t)) 0)
      ⊢ iprop(|={Set.univ}=> arrived B c) := by
  unfold deal known arrived
  have hr (n : Dev nD) : (bigSep Finset.univ fun n : Dev nD => reached (ER (F := F)) (bar n) 0 : sProp 𝕄) ⊢ reached ER (bar n) 0 :=
    bigSep_elim (Finset.mem_univ n)
  iintro ⟨⟨⟨⟨%κ, #HI⟩, #Hr⟩, Hs, Ht⟩, Hl, Hv⟩
  imod (open_cells B κ c) $$ [Ht Hv] with ⟨H1, H2⟩
  · isplitr; · iexact HI
    isplitl [Ht]; · iexact Ht
    iexact Hv
  imodintro
  isplitr; · iexists κ; iexact HI
  isplitl [Hl]; · iexact Hl
  isplitl [Hs]
  · isplitl [Hs]; · iexact Hs
    isplitr
    · iapply (hr (prv c)); iexact Hr
    · iapply (hr (nxt c)); iexact Hr
  isplitl [H1]; · iexact H1
  iexact H2

/-- The opened cells, the keys and values, the local semaphores and the scratch buffers are what the body starts from. -/
theorem enter (c : Dev nD) :
    iprop((arrived B c ∗ kept B c ∗ localSems (F := F) c) ∗ scratch (F := F) c) ⊢ ready B c := by
  have hsp : (bigSep Finset.univ (spare (F := F) c) : sProp 𝕄)
      = iprop((bigSep Finset.univ fun k : Fin 7 => freeQ (F := F) c k.succ) ∗ (bigSep Finset.univ fun k : Fin 7 => freeO (F := F) c k.succ)
        ∗ bigSep Finset.univ (opened (F := F) c)) := by
    unfold spare opened
    rw [bigSep_sep', bigSep_sep']
  unfold arrived kept localSems scratch ready handshake shake
  rw [hsp]
  iintro ⟨⟨⟨HI, Hl, ⟨⟨T1, T2, C, At⟩, R1, R2⟩, Ht, Ho⟩, Hk, Hs⟩, S0, S1, S2, S3⟩
  ihave H := (slots_in c) $$ [S0 S1]
  · isplitl [S0]; · iexact S0
    iexact S1
  icases H with ⟨H0, HQ, HO⟩
  isplitl [HI]; · iexact HI
  isplitl [Hl]; · iexact Hl
  isplitl [T1 T2 C At R1 R2 HQ HO Ho]
  · isplitl [T1]; · iexact T1
    isplitl [T2]; · iexact T2
    isplitl [R1]; · iexact R1
    isplitl [R2]; · iexact R2
    isplitl [C]; · iexact C
    isplitl [At]; · iexact At
    isplitl [HQ]; · iexact HQ
    isplitl [HO]; · iexact HO
    iexact Ho
  isplitl [Hk Hs S2 S3]
  · iapply (idles_locals B c).1
    unfold locals
    isplitl [Hk]; · iexact Hk
    isplitl [Hs]; · iexact Hs
    isplitl [S2]; · iexact S2
    iexact S3
  isplitl [H0]; · iexact H0
  iexact Ht

/-- What the body ends with gives back the keys and values, the barrier and every semaphore at zero, and the scratch
buffers. -/
theorem leave (c : Dev nD) :
    done B c ⊢ iprop((kept B c ∗ semVal (bar c) 0) ∗ Pipeline.ownSems0 osem c ∗ scratch (F := F) c) := by
  have hsp : (bigSep Finset.univ (spent B c) : sProp 𝕄)
      = iprop((bigSep Finset.univ fun k : Fin 7 => semVal (ssq c k.castSucc) 0) ∗ (bigSep Finset.univ fun k : Fin 7 => semVal (sso c k.castSucc) 0)
        ∗ (bigSep Finset.univ fun k : Fin 7 => semVal (rsq c k.succ) 0) ∗ (bigSep Finset.univ fun k : Fin 7 => semVal (rso c k.succ) 0)
        ∗ (bigSep Finset.univ fun k : Fin 7 => heldQ B c k.castSucc fullShare) ∗ bigSep Finset.univ fun k : Fin 7 => heldO B c k.castSucc fullShare) := by
    unfold spent
    rw [bigSep_sep', bigSep_sep', bigSep_sep', bigSep_sep', bigSep_sep']
  have hx : (bigSep Finset.univ fun t : Fin 4 × Fin 7 => semVal (xcell (c, t)) 0 : sProp 𝕄)
      = iprop((bigSep Finset.univ fun k : Fin 7 => semVal (ssq c k.castSucc) 0) ∗ (bigSep Finset.univ fun k : Fin 7 => semVal (rsq c k.succ) 0)
        ∗ (bigSep Finset.univ fun k : Fin 7 => semVal (sso c k.castSucc) 0) ∗ bigSep Finset.univ fun k : Fin 7 => semVal (rso c k.succ) 0) := by
    rw [bigSep_univ_prod, bigSep_kinds]; rfl
  have hQ : (bigSep Finset.univ fun k : Fin 7 => heldQ B c k.castSucc fullShare : sProp 𝕄) ⊢ bigSep Finset.univ fun k : Fin 7 => freeQ (F := F) c k.castSucc :=
    bigSep_mono fun k _ => heldQ_free B c k.castSucc
  have hO : (bigSep Finset.univ fun k : Fin 7 => heldO B c k.castSucc fullShare : sProp 𝕄) ⊢ bigSep Finset.univ fun k : Fin 7 => freeO (F := F) c k.castSucc :=
    bigSep_mono fun k _ => heldO_free B c k.castSucc
  unfold done kept scratch
  rw [ownSems_eq, hsp, hx]
  iintro ⟨Hi, ⟨HQ7, HO7⟩, ⟨V1, V2, V3, V4, HQ, HO⟩, Hb⟩
  ihave Hi := (idles_locals B c).2 $$ Hi
  unfold locals
  icases Hi with ⟨Hk, Hs, S2, S3⟩
  ihave H := (slots_out c) $$ [HQ7 HO7 HQ HO]
  · isplitl [HQ7 HO7]
    · isplitl [HQ7]
      · iapply (heldQ_free B c 7); iexact HQ7
      · iapply (heldO_free B c 7); iexact HO7
    isplitl [HQ]
    · iapply hQ; iexact HQ
    · iapply hO; iexact HO
  icases H with ⟨S0, S1⟩
  isplitl [Hk Hb]
  · isplitl [Hk]; · iexact Hk
    iexact Hb
  isplitl [Hs V1 V2 V3 V4]
  · isplitl [Hs]; · iexact Hs
    isplitl [V1]; · iexact V1
    isplitl [V3]; · iexact V3
    isplitl [V2]; · iexact V2
    iexact V4
  isplitl [S0]; · iexact S0
  isplitl [S1]; · iexact S1
  isplitl [S2]; · iexact S2
  iexact S3

/-! ## The region's data -/

variable (m : (ℓ : Loc nD τ sig) → Buf (Elt F) ℓ)

/-- The blocks that a launch on memory `m` gives the devices. -/
def blocks : Blocks F where
  x c := iblk m c 0 t0_0
  wq c := iblk m c 1 t0_0
  wo c := iblk m c 2 t0_0
  k c := V m c main_v1
  v c := V m c main_v2

/-- The region's proof data: its arrays as it finds them; the inputs as fetched, the result as computed. -/
def dat0 (c : Dev nD) : Pipeline.Dat τ (Elt F) Unit ℕ UU ℕ cfg0 c where
  A w := V m c (Pipeline.arrRef spec0 w)
  after w _ := match w with
    | ⟨0, _⟩ => iblk m c 0 t0_0
    | ⟨1, _⟩ => iblk m c 1 t0_0
    | ⟨2, _⟩ => iblk m c 2 t0_0
    | ⟨3, _⟩ => outBlock (blocks m) c
  Φ i := if i.val = 0 then ready (blocks m) c else done (blocks m) c
  q _ := fullShare
  owed i := if i.val = 0 then owe c else 0

/-- The body finds the device's activations in the first staging buffer. -/
theorem before_0 (c : Dev nD) (d : (cfg0.win 0).block.Idx → Elt F (cfg0.win 0).elt) : (dat0 m c).before 0 t0_0 d = (blocks m).x c := by
  unfold Pipeline.Dat.before; rw [if_pos (by decide)]; rfl
/-- The body finds the device's own query weights in the second staging buffer. -/
theorem before_1 (c : Dev nD) (d : (cfg0.win 1).block.Idx → Elt F (cfg0.win 1).elt) : (dat0 m c).before 1 t0_0 d = (blocks m).wq c := by
  unfold Pipeline.Dat.before; rw [if_pos (by decide)]; rfl
/-- The body finds the device's own output weights in the third staging buffer. -/
theorem before_2 (c : Dev nD) (d : (cfg0.win 2).block.Idx → Elt F (cfg0.win 2).elt) : (dat0 m c).before 2 t0_0 d = (blocks m).wo c := by
  unfold Pipeline.Dat.before; rw [if_pos (by decide)]; rfl

/-- Holding a whole buffer at some contents through its memref is holding the buffer. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

/-- The state before the one step of the grid. -/
theorem ready_0 (c : Dev nD) : (dat0 m c).Φ t0_0.castSucc = ready (blocks m) c := rfl
/-- The state after it. -/
theorem done_1 (c : Dev nD) : (dat0 m c).Φ t0_0.succ = done (blocks m) c := rfl
/-- Before the step a device owes all it owes at launch. -/
theorem owes_0 (c : Dev nD) : (dat0 m c).owed t0_0.castSucc = owe c := rfl
/-- After the step it owes nothing. -/
theorem owes_1 (c : Dev nD) : (dat0 m c).owed t0_0.succ = 0 := rfl

/-- The kernel's function, at its buffers, is the program written hop by hop. -/
theorem kernel_body :
    cc0_body (F := F) memX (Facts₀.hstage0_0 0) memWq (Facts₀.hstage0_1 0) hbmK (Memref.isWhole_whole _) hbmV
      (Memref.isWhole_whole _) memWo (Facts₀.hstage0_2 0) memOut (Facts₀.hstage0_3 0) memQ (Memref.isWhole_whole _) memO
      (Memref.isWhole_whole _) memK (Memref.isWhole_whole _) memV (Memref.isWhole_whole _)
      cc0_scratch4 cc0_scratch5 cc0_scratch6 cc0_scratch7 cc0_scratch8 cc0_scratch9 = body := by
  rw [cc0_body_eq_skeleton]; exact body_eq

/-- The body that a launch runs is the kernel's, on its staging buffers, its arrays in memory and its scratch. -/
theorem defs_tc : (defs₀ (F := F)) .tc cfg0.body
    = fun a => cc0_body (F := F) (win0_0.stage (a.2 0)) (Facts₀.hstage0_0 0) (win0_1.stage (a.2 1)) (Facts₀.hstage0_1 0)
        hbmK (Memref.isWhole_whole _) hbmV (Memref.isWhole_whole _) (win0_2.stage (a.2 2)) (Facts₀.hstage0_2 0)
        (win0_3.stage (a.2 3)) (Facts₀.hstage0_3 0) memQ (Memref.isWhole_whole _) memO (Memref.isWhole_whole _)
        memK (Memref.isWhole_whole _) memV (Memref.isWhole_whole _)
        cc0_scratch4 cc0_scratch5 cc0_scratch6 cc0_scratch7 cc0_scratch8 cc0_scratch9 := rfl

/-- What the region calls is that program. -/
theorem called : (defs₀ (F := F)) .tc cfg0.body (cfg0.bodyArgs t0_0 (cfg0.slots t0_0)) = body :=
  ((congrFun defs_tc _).trans rfl).trans kernel_body

set_option maxRecDepth 4000 in
/-- The region's body, from its staging buffers and what a device holds at entry, leaves the result in its staging buffer. -/
theorem body_obligation (c : Dev nD) :
    BodyObligation (dat0 (F := F) m c) (defs₀ (F := F)) Variants.none () Set.univ := fun t => by
  obtain rfl := fin_N0 t
  rw [bigSep_W0, bigSep_W0]
  simp only [owns_buffer]
  rw [ready_0, done_1, called]
  unfold ready
  unfold Pipeline.Dat.owesAt Pipeline.owesWithin
  rw [owes_0, owes_1]
  iintro ⟨⟨⟨%κ, HI⟩, Hl, Hh, Hi, Hf, Ht⟩, ⟨%W, -, HO⟩, ⟨%d0, %f0, %hf0, H0⟩, ⟨%d1, %f1, %hf1, H1⟩, ⟨%d2, %f2, %hf2, H2⟩, ⟨%d3, %f3, %hf3, H3⟩⟩
  rw [before_0] at hf0
  rw [before_1] at hf1
  rw [before_2] at hf2
  subst hf0 hf1 hf2
  iapply (wp_body (blocks m) κ c) $$ [HI Hl Hh Hi Hf Ht HO H0 H1 H2 H3]
  · unfold bodyPre staged idles
    isplitl [HI]; · iexact HI
    isplitl [Hl]; · iexact Hl
    isplitl [HO]; · iexists W; iexact HO
    isplitl [Hh]; · iexact Hh
    isplitl [H0 H1 H2]
    · isplitl [H0]; · iexact H0
      isplitl [H1]; · iexact H1
      iexact H2
    isplitl [Hi]; · iexact Hi
    isplitl [Hf]; · iexact Hf
    isplitl [Ht]; · iexact Ht
    iexists f3; iexact H3
  unfold bodyPost staged done
  iintro ⟨HO, ⟨H0, H1, H2⟩, Hi, Hq, Hs, Hb, H3⟩
  isplitl [Hi Hq Hs Hb]
  · isplitl [Hi]; · unfold idles; iexact Hi
    isplitl [Hq]; · iexact Hq
    isplitl [Hs]; · iexact Hs
    iexact Hb
  isplitl [HO]
  · icases HO with ⟨%W', HO⟩
    iexists W'; isplitr; · ipureintro; exact fun _ _ => Or.inl trivial
    iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexists _; isplitr; swap; (· iexact H3); ipureintro; rfl

end Cert.KernelIdeal.Ring

end
-- ==== Proof.Ring.Launch.lean ====
module

public import proofs.«01_k».proof.Proof.Ring.Entry
public import Idealize.ShloMosaic.Lib.Pipeline.ValueKit

@[expose] public section

noncomputable section

/-! # The run of the whole program

The host's four operations, then the kernel on all eight devices: every execution ends, the arguments are as they were,
every semaphore is at zero, and each device's result is the block that its body computes. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Facts₀ Facts

variable {F : FTy → Type} [FloatOps F]

local notation "𝕄" => MT nD τ sig Unit (Elt F) ℕ UU ℕ

variable (m : (ℓ : Loc nD τ sig) → Buf (Elt F) ℓ) (ρ : Dev nD → PrngReg)

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

local notation "ℍ" => Pipeline.HostSeg (Name := ℕ) (U := UU) (pcfgs (F := F)) defs₀ Variants.none L lv
local notation "ℝ𝕊" => Pipeline.RegionSeg (pcfgs (F := F)) adm (pdats m) () defs₀ Variants.none L lv

/-- A buffer of device `c` held whole. -/
abbrev holds (c : Dev nD) (b : Ref sig .tc) (f : b.ty.Contents (Elt F)) : sProp 𝕄 := ((c : Thread nD τ).loc b) ↦{fullShare} f

/-! ## The host's operations -/

/-- The host's operations touch the program's buffers only. -/
theorem host_sub : ∀ op ∈ (hostOps0 : List (HloOp τ sig (Elt F))), op.bufs ⊆ Pipeline.ucRefs τ sig := fun op h =>
  Pipeline.sub_ucRefs op (List.forall_iff_forall_mem.mp hostOps0_sub op h)
/-- The host's operations need no fresh buffer. -/
theorem host_fresh : ∀ op ∈ (hostOps0 : List (HloOp τ sig (Elt F))), op.fresh = ∅ :=
  List.forall_iff_forall_mem.mp hostOps0_fresh

/-- What passes by the host's operations: the launch's deal, and what the device owes. -/
def riding (c : Dev nD) : sProp 𝕄 := iprop(deal (blocks m) c ∗ owes (c : Thread nD τ) (owe c) ∅)

/-- The host's operations, over all buffers. -/
def seg0 : ℍ :=
  Pipeline.HostSeg.ofOps _ _ _ _ _ (Pipeline.ucRefs τ sig) (hostOps0 (F := F)) host_sub host_fresh
    (fun c b => m (c, b)) (riding m)

/-! ## The kernel's call -/

/-- The arrays of the call: activations, query weights, output weights, result. -/
theorem arrays_at (c : Dev nD) (Fa) : ((pdats (F := F) m 0 c).arrays Fa : sProp 𝕄)
    = iprop(holds c main_arg0 (Fa 0) ∗ holds c main_v3 (Fa 1) ∗ holds c main_v4 (Fa 2) ∗ holds c main_v5 (Fa 3)) := by
  rw [Pipeline.arrays_eq (Pipeline.pin (pcfgs (F := F)) adm) (pdats m) 0 c launch0.arr_whole ((pdats m 0 c).share_full fun _ => rfl) Fa, bigSep_W0]

/-- The activations' array is as launched, -/
theorem arr_x (c : Dev nD) :
    (pdats (F := F) m 0 c).arrAt 0 (Pipeline.pin (pcfgs (F := F)) adm 0).N = m ((c : Thread nD τ).loc main_arg0) :=
  ((dat0 (F := F) m c).arrAt_in 0 rfl _).trans (V_main_arg0 m c)
/-- and the result's array is the block computed. -/
theorem arr_out (c : Dev nD) :
    (pdats (F := F) m 0 c).arrAt 3 (Pipeline.pin (pcfgs (F := F)) adm 0).N = outBlock (blocks m) c := by
  refine (dat0 m c).arrAt_eq_of_after_last 3 t0_0 (by decide +kernel) _ fun j => ?_
  blk_simp
  rfl

/-- What a device holds at the end. -/
def final (c : Dev nD) : sProp 𝕄 :=
  iprop(holds c main_arg0 (m ((c : Thread nD τ).loc main_arg0)) ∗ holds c main_arg1 (m ((c : Thread nD τ).loc main_arg1))
    ∗ holds c main_arg2 (m ((c : Thread nD τ).loc main_arg2)) ∗ holds c main_arg3 (m ((c : Thread nD τ).loc main_arg3))
    ∗ holds c main_arg4 (m ((c : Thread nD τ).loc main_arg4)) ∗ holds c main_v5 (outBlock (blocks m) c)
    ∗ semVal (bar c) 0)

/-- The arguments that the kernel has no window on. -/
def unread (c : Dev nD) : sProp 𝕄 :=
  iprop(holds c main_arg1 (V m c main_arg1) ∗ holds c main_arg2 (V m c main_arg2) ∗ holds c main_arg3 (V m c main_arg3)
    ∗ holds c main_arg4 (V m c main_arg4))

/-- After the host's operations, the buffers are the region's arrays, the keys and values, and the rest. -/
theorem buffers_split (c : Dev nD) :
    (StableHlo.held (c : Thread nD τ) (Pipeline.ucRefs τ sig) (StableHlo.after (hostOps0 (F := F)) (fun b => m (c, b))) : sProp 𝕄)
      ⊢ iprop((pdats m 0 c).arrays ((pdats m 0 c).arrAt · 0) ∗ unread m c ∗ kept (blocks m) c) := by
  rw [← Pipeline.unscopedBufs_held]
  refine (Pipeline.arrays_of_unscopedBufs (pcfgs (F := F)) adm (pdats m) launch0.win launch0.arr_whole c
      ((pdats m 0 c).share_full fun _ => rfl) (V m c) fun _ => rfl).trans
    ((sep_mono .rfl (Entails.of_eq (unscopedRest0_eq c (V m c)))).trans ?_)
  unfold unread kept
  iintro ⟨Ha, H1, H2, H3, H4, Hk, Hv⟩
  isplitl [Ha]; · iexact Ha
  isplitl [H1 H2 H3 H4]
  · isplitl [H1]; · iexact H1
    isplitl [H2]; · iexact H2
    isplitl [H3]; · iexact H3
    iexact H4
  isplitl [Hk]; · iexact Hk
  iexact Hv

/-- A device may wait for its staging copies at any time, whatever it owes. -/
theorem wait_staging (c : Dev nD) (w : Fin 4) (s : Fin (spec0 w).nbuf) (t : Fin (grid0.N + 1)) :
    (levAts L lv : sProp 𝕄) ⊢ MayWait (c : Thread nD τ) (.dma ((spec0 w).sem s)) () ((dat0 m c).owed t) := by
  have hl : lv ((c : Thread nD τ), .dma ((spec0 w).sem s)) () = 0 := by
    fin_cases w <;> fin_cases s <;> rfl
  by_cases ht : t.val = 0
  · rw [show (dat0 m c).owed t = owe c from if_pos ht]
    exact mayWait_owe c _ hl
  · rw [show (dat0 m c).owed t = 0 from if_neg ht, MayWait_zero]
    iintro -; iempintro

/-- The kernel's call. -/
def reg0 : ℝ𝕊 0 where
  win := launch0.win.to₀
  block_pos := launch0.block_pos
  stage_whole := launch0.stage_whole
  K := OwnSem
  osem := osem
  ho := osem_facts
  hbody c := (body_obligation m c).loose
  hwaits c := Pipeline.cellsWaits_intro _ (pdats m) () 0 c fun w s t => wait_staging m c w s t
  pre := (seg0 m).post
  post c := iprop(final m c ∗ ∃ W, owes (c : Thread nD τ) (0 : CellTallies nD τ sig Unit) W)
  X c := iprop(arrived (blocks m) c ∗ kept (blocks m) c ∗ localSems (F := F) c)
  Y c := iprop(kept (blocks m) c ∗ semVal (bar c) 0)
  Z c := unread m c
  hentry c := by
    dsimp only [seg0, Pipeline.HostSeg.ofOps]
    unfold riding
    rw [ownSems_eq]
    iintro ⟨⟨Hh, Hd, HO⟩, ⟨Hs, Hx⟩, Hl⟩
    ihave Hh := (buffers_split m c) $$ Hh
    icases Hh with ⟨Ha, Hu, Hk⟩
    imod (arrive (blocks m) c) $$ [Hd Hl Hx] with H
    · isplitl [Hd]; · iexact Hd
      isplitl [Hl]; · iexact Hl
      iexact Hx
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists ∅; isplitr; · ipureintro; exact fun _ _ => Or.inl trivial
      iexact HO
    isplitl [H Hk Hs]
    · isplitl [H]; · iexact H
      isplitl [Hk]; · iexact Hk
      unfold localSems; iexact Hs
    iexact Hu
  hin c := by
    rw [scopedRest0_eq]
    refine BIBase.Entails.trans ?_ (enter (blocks m) c)
    iintro ⟨HX, -, HS⟩
    isplitl [HX]; · iexact HX
    unfold scratch; iexact HS
  hout c := by
    rw [scopedRest0_eq]
    exact leave (blocks m) c
  hexit c := by
    unfold final unread
    rw [arrays_at, arr_x, arr_out, V_main_arg1, V_main_arg2, V_main_arg3, V_main_arg4]
    unfold Pipeline.Dat.owesAt Pipeline.owesWithin
    iintro ⟨⟨H0, -, -, H5⟩, ⟨%W, -, HO⟩, ⟨-, Hb⟩, ⟨H1, H2, H3, H4⟩⟩
    imodintro
    isplitr [HO]
    · isplitl [H0]; · iexact H0
      isplitl [H1]; · iexact H1
      isplitl [H2]; · iexact H2
      isplitl [H3]; · iexact H3
      isplitl [H4]; · iexact H4
      isplitl [H5]; · iexact H5
      iexact Hb
    iexists W; iexact HO

/-- The program: the host's operations, then the call. -/
def segs : List (Pipeline.Seg (pcfgs (F := F)) adm (pdats m) () defs₀ Variants.none L lv) := [.host (seg0 m), .region (reg0 m)]

/-- The program is the host's operations followed by the kernel. -/
theorem main_run (c : Dev nD) : main (F := F) c = Pipeline.Seg.run (segs m) :=
  main_segs adm (pdats m) () Variants.none L lv (seg0 m) (reg0 m) rfl c

/-! ## The launch -/

/-- The launch's records: the pipeline's, and the ring's. -/
def u₀ : UU :=
  (initOf (Pipeline.cells (Pipeline.pin (pcfgs (F := F)) adm) cellOf_inj) (Pipeline.launchToks (Pipeline.pin (pcfgs (F := F)) adm) cellOf_inj),
    (launchOf barCells xferCells toks, 1))

/-- The ring's records go to the launch as device 0's. -/
def G (c : Dev nD) : sProp 𝕄 := if c = 0 then BI.own (ER (F := F) (launchOf barCells xferCells toks)) else iprop(emp)

/-- All the devices' parts of the ring's records are the ring's records. -/
theorem G_eq : bigSep Finset.univ G = (BI.own (ER (F := F) (launchOf barCells xferCells toks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The one semaphore outside the kernel's scratch is the barrier. -/
theorem barrier_eq (c : Dev nD) : (unscopedSems0 c : sProp 𝕄) = semVal (bar c) 0 := by
  unfold unscopedSems0
  rw [bigSep_eq_bigSepL_of_eq [SemLoc.reg barSem] (by decide) (by decide)]
  rfl

/-- What the launch gives every device becomes what its first segment starts from. -/
theorem init :
    iprop((bigSep Finset.univ fun c : Dev nD => iprop(unscopedBufs c (fun b => m ((c : Thread nD τ).loc b)) ∗ unscopedSems0 c
          ∗ owes (c : Thread nD τ) (owe c) ∅ ∗ Pipeline.launchCred owe c ∗ prngReg c (ρ c) ∗ G (F := F) c)) ∗ levAts L lv)
      ⊢ (|={Set.univ}=> bigSep Finset.univ (seg0 m).pre : sProp 𝕄) := by
  have h1 (c : Dev nD) : iprop(unscopedBufs c (fun b => m ((c : Thread nD τ).loc b)) ∗ unscopedSems0 c
        ∗ owes (c : Thread nD τ) (owe c) ∅ ∗ Pipeline.launchCred owe c ∗ prngReg c (ρ c) ∗ G (F := F) c)
      ⊢ (iprop((semVal (bar c) 0 ∗ Pipeline.launchCred owe c) ∗ G (F := F) c
          ∗ (unscopedBufs c (fun b => m ((c : Thread nD τ).loc b)) ∗ owes (c : Thread nD τ) (owe c) ∅)) : sProp 𝕄) := by
    rw [barrier_eq]
    iintro ⟨Hu, Hs, HO, Hc, -, HG⟩
    isplitl [Hs Hc]
    · isplitl [Hs]; · iexact Hs
      iexact Hc
    isplitl [HG]; · iexact HG
    isplitl [Hu]; · iexact Hu
    iexact HO
  have h2 (c : Dev nD) : iprop(deal (blocks m) c ∗ (unscopedBufs c (fun b => m ((c : Thread nD τ).loc b)) ∗ owes (c : Thread nD τ) (owe c) ∅))
      ⊢ (seg0 m).pre c := by
    dsimp only [seg0, Pipeline.HostSeg.ofOps]
    rw [← Pipeline.unscopedBufs_held]
    unfold riding
    iintro ⟨Hd, Hu, HO⟩
    isplitl [Hu]; · iexact Hu
    isplitl [Hd]; · iexact Hd
    iexact HO
  have h3 : iprop(bigSep Finset.univ fun c : Dev nD => iprop(unscopedBufs c (fun b => m ((c : Thread nD τ).loc b)) ∗ unscopedSems0 c
          ∗ owes (c : Thread nD τ) (owe c) ∅ ∗ Pipeline.launchCred owe c ∗ prngReg c (ρ c) ∗ G (F := F) c))
      ⊢ (iprop((bigSep Finset.univ fun c : Dev nD => iprop(semVal (bar c) 0 ∗ Pipeline.launchCred owe c))
          ∗ bigSep Finset.univ (G (F := F))
          ∗ bigSep Finset.univ fun c : Dev nD => iprop(unscopedBufs c (fun b => m ((c : Thread nD τ).loc b)) ∗ owes (c : Thread nD τ) (owe c) ∅)) : sProp 𝕄) := by
    rw [← bigSep_sep', ← bigSep_sep']
    exact bigSep_mono fun c _ => h1 c
  have h4 : iprop(bigSep Finset.univ (deal (blocks m))
          ∗ bigSep Finset.univ fun c : Dev nD => iprop(unscopedBufs c (fun b => m ((c : Thread nD τ).loc b)) ∗ owes (c : Thread nD τ) (owe c) ∅))
      ⊢ (bigSep Finset.univ (seg0 m).pre : sProp 𝕄) := by
    rw [← bigSep_sep']
    exact bigSep_mono fun c _ => h2 c
  iintro ⟨H, -⟩
  ihave H := h3 $$ H
  icases H with ⟨Hs, HG, Hr⟩
  ihave HG := (Entails.of_eq (G_eq (F := F))) $$ HG
  imod (fund (blocks m)) $$ [Hs HG] with Hd
  · isplitl [Hs]; · iexact Hs
    iexact HG
  imodintro
  iapply h4
  isplitl [Hd]; · iexact Hd
  iexact Hr

/-- The launch's records are the pipeline's and the ring's. -/
theorem launch_records :
    (ownU (u₀ (F := F)) : sProp 𝕄)
      ⊢ iprop(|={Set.univ}=> (BI.own (EP (initOf (Pipeline.cells (Pipeline.pin (pcfgs (F := F)) adm) cellOf_inj)
          (Pipeline.launchToks (Pipeline.pin (pcfgs (F := F)) adm) cellOf_inj))) ∗ bigSep Finset.univ (G (F := F)))) := by
  unfold u₀
  rw [G_eq]
  iintro Hu
  ihave H := (ownU_pair _ _) $$ Hu
  icases H with ⟨HP, HX⟩
  ihave HX := (own_pair_emb embR _ _) $$ HX
  icases HX with ⟨HX, -⟩
  imodintro
  isplitl [HP]; · iexact HP
  unfold ER; iexact HX

/-- What is read off the final state, device by device. -/
def Reads (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v5) = outBlock (blocks m) c

/-- What a device holds at the end tells what its memory holds, and that its barrier is at zero. -/
theorem read_final (c : Dev nD) (s' : Phys nD τ sig (Elt F)) :
    iprop(final m c ∗ SI s') ⊢ (|={Set.univ}=> iprop(⌜Reads m c s'.mem ∧ s'.mem.sem (bar c) = 0⌝ ∗ SI s') : sProp 𝕄) := by
  unfold final holds
  iintro ⟨⟨H0, H1, H2, H3, H4, H5, Hb⟩, HSI⟩
  icombine HSI H0 gives %h0
  icombine HSI H1 gives %h1
  icombine HSI H2 gives %h2
  icombine HSI H3 gives %h3
  icombine HSI H4 gives %h4
  icombine HSI H5 gives %h5
  icombine HSI Hb gives %hb
  imodintro
  isplitr
  · ipureintro
    exact ⟨⟨⟨Buf.eq_of_forall_mem_univ h0, Buf.eq_of_forall_mem_univ h1, Buf.eq_of_forall_mem_univ h2,
      Buf.eq_of_forall_mem_univ h3, Buf.eq_of_forall_mem_univ h4⟩, Buf.eq_of_forall_mem_univ h5⟩, hb⟩
  iexact HSI

set_option backward.isDefEq.respectTransparency.types false in
/-- Every execution of the program on the eight devices ends, with the arguments as they were, the results as computed,
and every semaphore at zero. -/
theorem run_main : θ_run defs (onTc (τ := τ) (main (F := F))) ⟨m, fun _ => 0, ρ⟩
    (fun r => (∀ c : Dev nD, Reads m c r.2) ∧ r.2.sem = fun _ => 0) :=
  Pipeline.θ_run_regions_kit_sems (pcfgs (F := F)) adm (pdats m) () cellOf_inj EP defs₀ Variants.none L lv m ρ main (segs m)
    (fun c Q => by rw [main_run m c])
    (by simp only [segs, Pipeline.Seg.pipes_host, Pipeline.Seg.pipes_region, Pipeline.Seg.pipes_nil]; decide)
    (O₀ := owe) (hL := L_of_ne) (G := G (F := F)) (u₀ := u₀ (F := F)) (hu₀ := launch_records)
    (T₀ := (seg0 m).pre) (Tₙ := final m)
    (hch := ⟨fun c => .rfl, fun c => .rfl, fun c => .rfl⟩)
    (hinit := init m ρ)
    (QY := fun c s => Reads m c s ∧ s.sem (bar c) = 0)
    (hfin := read_final m)
    (hQ := fun s h hs => ⟨fun c => (h c).1, sem_eq_zero hs fun c sm hsm => by
      have hl : ∀ sm : SemLoc sig, sm.isScoped .tc = false → sm = .reg barSem := by decide
      rw [hl sm hsm]
      exact (h c).2⟩)

end Cert.KernelIdeal.Ring

end
-- ==== Proof.Ring.Frames.lean ====
module

public import proofs.«01_k».proof.Defs
public import proofs.«01_k».proof.Proof.Gen.Kernel
public import proofs.«01_k».proof.Proof.Ring.Launch

@[expose] public section

noncomputable section

/-! # The two frames

The kernel and its idealization have one text, so the one run gives both frames. -/

namespace Cert.KernelIdeal.Ring

open Idealize.ShloMosaic Idealize.SL.Sem

/-- The two bodies are one program, -/
theorem twin_body : Cert.Kernel.cc0_body (F := Bits) = Cert.KernelIdeal.cc0_body (F := Bits) := rfl

/-- so are the tables that hold them, -/
theorem twin_defs₀ : Cert.Kernel.defs₀ (F := Bits) = Cert.KernelIdeal.defs₀ (F := Bits) := by
  refine congrArg Defs.onTc (funext fun l => funext fun a => ?_)
  match l, a with
  | 0, (t, s) =>
    dsimp only
    rw [twin_body]
  | ⟨_ + 1, h⟩, _ => exact absurd h (Nat.not_lt.2 (Nat.le_add_left _ _))

/-- and the tables with the calls in them. -/
theorem twin_defs : Cert.Kernel.defs (F := Bits) = Cert.KernelIdeal.defs (F := Bits) :=
  congrArg (Pipeline.defs Cert.KernelIdeal.pcfgs) twin_defs₀

/-- The idealized kernel runs, leaves its arguments as they were and every semaphore at zero. -/
theorem frame_ideal : Cert.quiescent_KernelIdeal := fun m ρ _ =>
  (θ_run Cert.KernelIdeal.defs _ _).mono (fun _ h => ⟨fun c => (h.1 c).1, h.2⟩) (run_main (F := Ideal) m ρ)

/-- The kernel runs, leaves its arguments as they were and every semaphore at zero. -/
theorem frame_kernel : Cert.quiescent_Kernel := by
  intro m ρ _
  refine Eq.mpr (congrArg (fun D => θ_run D (onTc (τ := Cert.Kernel.τ) (Cert.Kernel.main (F := Bits))) ⟨m, fun _ => 0, ρ⟩ _) twin_defs) ?_
  exact θ_run_mono (run_main (F := Bits) m ρ) fun _ h => ⟨fun c => (h.1 c).1, h.2⟩

end Cert.KernelIdeal.Ring

end
-- ==== Proof.Value.Attend.lean ====
module

public import Idealize.ShloMosaic.Lib.Pointwise.Tactic
public import Idealize.ShloMosaic.Lib.Pointwise.Contract

@[expose] public section

noncomputable section

/-! # Attention over the extended reals

One head of the attention as plain mathematics: a row of scores under a fixed pattern of tiles, its softmax, and the
average of the values that it gives. Both programs are read down to these definitions. -/

namespace Cert.Attend

open Idealize.ShloMosaic
open scoped BigOperators

/-- Rows and columns fall into tiles of 64. A score counts when its tile is on the diagonal, is in the first column of
tiles, or has tile numbers that add up to a multiple of three. -/
def keep (i j : Fin 256) : BitVec 1 :=
  if i.val / 64 = j.val / 64 ∨ j.val / 64 = 0 ∨ (i.val / 64 + j.val / 64) % 3 = 0 then 1#1 else 0#1

/-- The score of row `i` against column `j`: an eighth of the product of query and key, or the mask's value. -/
def score (q k : Fin 256 → Fin 64 → EReal) (i j : Fin 256) : EReal :=
  Scalar.select (keep i j) ((∑ d, q i d * k j d) * Ideal.ofBits .f32 0x3E000000#32) (Ideal.ofBits .f32 0xCE6E6B28#32)

/-- The greatest entry of row `i`. -/
def top (s : Fin 256 → Fin 256 → EReal) (i : Fin 256) : EReal :=
  (Finset.univ : Finset (Fin 256)).fold max (Ideal.ofBits .f32 0xFF800000#32) (s i)

/-- The exponential of an entry less the greatest of its row. -/
def weight (s : Fin 256 → Fin 256 → EReal) (i j : Fin 256) : EReal := Ideal.exp (s i j - top s i)

/-- An entry divided by the sum of its row. -/
def share (e : Fin 256 → Fin 256 → EReal) (i j : Fin 256) : EReal := Ideal.div (e i j) (∑ j', e i j')

/-- One head: the values averaged by the softmax of the scores. -/
def attend (q k v : Fin 256 → Fin 64 → EReal) (i : Fin 256) (d : Fin 64) : EReal :=
  ∑ j, share (weight (score q k)) i j * v j d

/-- The five arrays: the activations, the query weights, the keys and the values of every head, the output weights. -/
structure Arrays where
  x : Fin 16 → Fin 256 → Fin 512 → EReal
  wq : Fin 512 → Fin 2048 → EReal
  k : Fin 16 → Fin 256 → Fin 32 → Fin 64 → EReal
  v : Fin 16 → Fin 256 → Fin 32 → Fin 64 → EReal
  wo : Fin 2048 → Fin 512 → EReal

namespace Arrays

variable (A : Arrays)

/-- The queries of head `g` in batch entry `s`. -/
def query (s : Fin 16) (g : Fin 32) (i : Fin 256) (d : Fin 64) : EReal :=
  ∑ e, A.x s i e * A.wq e ⟨64 * g.val + d.val, by omega⟩

/-- The result of head `g` in batch entry `s`. -/
def context (s : Fin 16) (g : Fin 32) (i : Fin 256) (d : Fin 64) : EReal :=
  attend (A.query s g) (fun j d => A.k s j g d) (fun j d => A.v s j g d) i d

/-- One column of the heads' results, side by side, times its output weight. -/
def term (s : Fin 16) (i : Fin 256) (l : Fin 512) (J : Fin 2048) : EReal :=
  A.context s ⟨J.val / 64, by omega⟩ i ⟨J.val % 64, by omega⟩ * A.wo J l

/-- The whole result. -/
def result (s : Fin 16) (i : Fin 256) (l : Fin 512) : EReal := ∑ J, A.term s i l J

/-- The part of the result that the 256 columns of block `o` give. -/
def part (o : Fin 8) (s : Fin 16) (i : Fin 256) (l : Fin 512) : EReal :=
  ∑ j : Fin 256, A.term s i l ⟨256 * o.val + j.val, by omega⟩

/-- The result is the sum of the parts of the eight blocks. -/
theorem result_eq (s : Fin 16) (i : Fin 256) (l : Fin 512) : A.result s i l = ∑ o, A.part o s i l := by
  unfold result part
  rw [← Fintype.sum_prod_type', ← Equiv.sum_comp (finProdFinEquiv (m := 8) (n := 256))]
  refine Finset.sum_congr rfl fun y _ => congrArg (A.term s i l) (Fin.ext ?_)
  simp only [finProdFinEquiv_apply_val]
  omega

end Arrays

end Cert.Attend

end

end
-- ==== Proof.Value.Head.lean ====
module

public import proofs.«01_k».proof.Proof.Ring.Reads
public import proofs.«01_k».proof.Proof.Value.Attend
public import Idealize.ShloMosaic.Lib.Pointwise.Reduce
public import Idealize.ShloMosaic.Lib.Pointwise.Reshape
public import Idealize.ShloMosaic.PureOps.Ideal.Laws

@[expose] public section

set_option maxRecDepth 16384

noncomputable section

/-! # What one head of the kernel computes over the extended reals

The kernel's mask and the value of one of its heads, read at an index. -/

namespace Cert.KernelIdeal.Ring

open Idealize.ShloMosaic Cert.Attend
open Facts₀ Facts

/-- The kernel's number of a row's tile is the row's quotient by 64. -/
theorem rowTile (i j : Fin 256) :
    Gen.k0_pay7 Gen.k0_pay4 Gen.k0_pay5 Gen.k0_pay6 (ix2 i j) = BitVec.ofNat 32 (i.val / 64) := by
  unfold_payloads
  pointwise
  clear j
  revert i
  decide +kernel

/-- The kernel's number of a column's tile is the column's quotient by 64. -/
theorem colTile (i j : Fin 256) : Gen.k0_pay8 (ix2 i j) = BitVec.ofNat 32 (j.val / 64) := by
  unfold_payloads
  pointwise
  clear i
  revert j
  decide +kernel

/-- The kernel's mask keeps the tiles of the pattern. -/
theorem mask_apply (i j : Fin 256) : mask (ix2 i j) = keep i j := by
  unfold mask Gen.k0_pay13 Gen.k0_pay9 Gen.k0_pay11 Gen.k0_pay10 Gen.k0_pay12 keep
  pointwise [rowTile, colTile]
  have hi : i.val / 64 < 4 := by omega
  have hj : j.val / 64 < 4 := by omega
  generalize i.val / 64 = a at *
  generalize j.val / 64 = b at *
  revert a b
  decide +kernel

/-- The kernel's scores of a head. -/
theorem scores_apply (q : FVec Ideal S256x64 .f32) (k : Vec Ideal S1x1x256x64 .f32) (i j : Fin 256) :
    scores q k (ix2 i j) = score (fun i d => q (ix2 i d)) (fun j d => k (ix4 0 0 j d)) i j := by
  unfold scores score
  pointwise [mask_apply]

/-- The kernel's exponentials of a head. -/
theorem weights_apply (s : FVec Ideal S256x256 .f32) (i j : Fin 256) :
    weights s (ix2 i j) = weight (fun i j => s (ix2 i j)) i j := by
  unfold weights weight top
  pointwise [Ideal.multiReduction_maximumf_single]

/-- The kernel's shares of a head. -/
theorem probs_apply (e : FVec Ideal S256x256 .f32) (i j : Fin 256) :
    probs e (ix2 i j) = share (fun i j => e (ix2 i j)) i j := by
  unfold probs share
  pointwise [Ideal.multiReduction_add_single]

/-- One head of the kernel is the attention of its queries, keys and values. -/
theorem head_apply (q : FVec Ideal S256x64 .f32) (k v : Vec Ideal S1x1x256x64 .f32) (i : Fin 256) (d : Fin 64) :
    head q k v (ix2 i d)
      = attend (fun i d => q (ix2 i d)) (fun j d => k (ix4 0 0 j d)) (fun j d => v (ix4 0 0 j d)) i d := by
  unfold head attend
  pointwise [probs_apply, weights_apply, scores_apply]

end Cert.KernelIdeal.Ring
end
end
-- ==== Proof.Value.Step.lean ====
module

public import proofs.«01_k».proof.Proof.Value.Head
public import proofs.«01_k».proof.Proof.Ring.Body
public import Idealize.ShloMosaic.Lib.Pointwise.Select
public import Idealize.ShloMosaic.Lib.Pointwise.IndexBridge

@[expose] public section

set_option maxRecDepth 16384

noncomputable section

/-! # What one block of the kernel adds to the accumulator

A block treats four heads of two batch entries. Their results are laid side by side, stacked, and multiplied by
the block's output weights. -/

namespace Cert.KernelIdeal.Ring

open Idealize.ShloMosaic Cert.Attend
open Facts₀ Facts

/-- Four pieces of 64 columns side by side, at an index. -/
theorem side_apply (p : Fin 4 → FVec Ideal S256x64 .f32) (i j : Fin 256) :
    concatenate S256x256 1 [⟨S256x64, p 0⟩, ⟨S256x64, p 1⟩, ⟨S256x64, p 2⟩, ⟨S256x64, p 3⟩]
        concatenates_S256x64_S256x64_S256x64_S256x64_S256x256_d1 (ix2 i j)
      = p ⟨j.val / 64, by omega⟩ (ix2 i ⟨j.val % 64, by omega⟩) := by
  have e : ∀ (n n' : Fin 4) (u u' : Fin 64), n.val = n'.val → u.val = u'.val → p n (ix2 i u) = p n' (ix2 i u') := by
    intro n n' u u' h h'; rw [Fin.ext h, Fin.ext h']
  pointwise
  split_ifs <;> refine e _ _ _ _ ?_ ?_ <;> simp only [Fin.isValue, Fin.val_zero, Fin.val_one, Fin.val_two] <;> omega

/-- Two pieces of 256 rows, one above the other, at an index. -/
theorem stack_apply (p : Fin 2 → FVec Ideal S256x256 .f32) (r : Fin 512) (j : Fin 256) :
    concatenate S512x256 0 [⟨S256x256, p 0⟩, ⟨S256x256, p 1⟩] concatenates_S256x256_S256x256_S512x256_d0 (ix2 r j)
      = p ⟨r.val / 256, by omega⟩ (ix2 ⟨r.val % 256, by omega⟩ j) := by
  have e : ∀ (n n' : Fin 2) (u u' : Fin 256), n.val = n'.val → u.val = u'.val → p n (ix2 u j) = p n' (ix2 u' j) := by
    intro n n' u u' h h'; rw [Fin.ext h, Fin.ext h']
  pointwise
  split_ifs <;> refine e _ _ _ _ ?_ ?_ <;> simp only [Fin.isValue, Fin.val_zero, Fin.val_one] <;> omega

/-- The queries of one block, at an index. -/
theorem queries_apply (x : Vec Ideal S2x256x512 .f32) (wq : Vec Ideal S1x512x256 .bf16) (r : Fin 512) (c : Fin 256) :
    queries x wq (ix2 r c) = ∑ e : Fin 512, x (ix3 ⟨r.val / 256, by omega⟩ ⟨r.val % 256, by omega⟩ e) * wq (ix3 0 e c) := by
  unfold queries
  unfold_payloads
  pointwise

/-- One head's keys or values in a buffer of four, at an index. -/
theorem headOf_apply (X : Vec Ideal S2x256x256 .f32) (b : Fin 2) (n : Fin 4) (i : Fin 256) (d : Fin 64) :
    headOf X b n (ix4 0 0 i d) = X (ix3 b i ⟨64 * n.val + d.val, by omega⟩) := rfl

/-- The slice of the queries that a head takes lies in the queries. -/
theorem slices (b : Fin 2) (n : Fin 4) : S512x256.Slices ![256 * b.val, 64 * n.val] S256x64 := by
  revert b n; decide

/-- What one head of a block gives. -/
def headAt (x : Vec Ideal S2x256x512 .f32) (wq : Vec Ideal S512x256 .bf16) (X Y : Vec Ideal S2x256x256 .f32) (b : Fin 2)
    (n : Fin 4) : FVec Ideal S256x64 .f32 :=
  head (extractStridedSlice S256x64 ![256 * b.val, 64 * n.val] (queries x (padQ wq)) (slices b n)) (headOf X b n)
    (headOf Y b n)

/-- A block's result of a head, as the attention of the block's columns. -/
theorem headAt_apply (x : Vec Ideal S2x256x512 .f32) (wq : Vec Ideal S512x256 .bf16) (X Y : Vec Ideal S2x256x256 .f32)
    (b : Fin 2) (n : Fin 4) (i : Fin 256) (d : Fin 64) :
    headAt x wq X Y b n (ix2 i d)
      = attend (fun i d => ∑ e : Fin 512, x (ix3 b i e) * wq (ix2 e ⟨64 * n.val + d.val, by omega⟩))
          (fun j d => X (ix3 b j ⟨64 * n.val + d.val, by omega⟩))
          (fun j d => Y (ix3 b j ⟨64 * n.val + d.val, by omega⟩)) i d := by
  unfold headAt
  rw [head_apply]
  congr 1
  funext i d
  have hb : (256 * b.val + i.val) / 256 = b.val := by omega
  have hi : (256 * b.val + i.val) % 256 = i.val := by omega
  pointwise [queries_apply, padQ, hb, hi]

/-- What a block adds, at an index: over the block's columns, the attention of the column's head times the weight. -/
theorem step_apply (x : Vec Ideal S2x256x512 .f32) (wq : Vec Ideal S512x256 .bf16) (wo : Vec Ideal S256x512 .bf16)
    (X Y : Vec Ideal S2x256x256 .f32) (acc : FVec Ideal S512x512 .f32) (r l : Fin 512) :
    step x wq wo X Y acc (ix2 r l) = acc (ix2 r l) + ∑ j : Fin 256,
      headAt x wq X Y ⟨r.val / 256, by omega⟩ ⟨j.val / 64, by omega⟩
        (ix2 ⟨r.val % 256, by omega⟩ ⟨j.val % 64, by omega⟩) * wo (ix2 j l) := by
  let p (b : Fin 2) : FVec Ideal S256x256 .f32 :=
    concatenate S256x256 1 [⟨S256x64, headAt x wq X Y b 0⟩, ⟨S256x64, headAt x wq X Y b 1⟩,
      ⟨S256x64, headAt x wq X Y b 2⟩, ⟨S256x64, headAt x wq X Y b 3⟩]
        concatenates_S256x64_S256x64_S256x64_S256x64_S256x256_d1
  have e : step x wq wo X Y acc = addf acc (matmul dot_S512x256_S256x512_S512x512_1_0_0_1_n_n none
      (truncf .bf16 (concatenate S512x256 0 [⟨S256x256, p 0⟩, ⟨S256x256, p 1⟩]
        concatenates_S256x256_S256x256_S512x256_d0) bitsLt_bf16_f32)
      (shapeCast S256x512 (padO wo) shapeCasts_S1x256x512_S256x512) (constant S512x512 .f32 0x00000000#32)) := rfl
  rw [e]
  generalize hP : concatenate S512x256 0 [⟨S256x256, p 0⟩, ⟨S256x256, p 1⟩]
        concatenates_S256x256_S256x256_S512x256_d0 = P
  have hp : ∀ j : Fin 256, P (ix2 r j) = headAt x wq X Y ⟨r.val / 256, by omega⟩ ⟨j.val / 64, by omega⟩
        (ix2 ⟨r.val % 256, by omega⟩ ⟨j.val % 64, by omega⟩) := fun j => by
    rw [← hP, stack_apply]; exact side_apply (headAt x wq X Y _) _ _
  pointwise [padO, hp]

/-- What hop `h` adds to the result of device `c` at batch entry `b`, row `i` and column `l`. -/
def hopAt (B : Blocks Ideal) (c : Dev nD) (h : Fin 8) (b : Fin 2) (i : Fin 256) (l : Fin 512) : EReal :=
  ∑ j : Fin 256, headAt (B.x c) (B.wq (back c h)) (blockK B c h) (blockV B c h) b ⟨j.val / 64, by omega⟩
    (ix2 i ⟨j.val % 64, by omega⟩) * B.wo (back c h) (ix2 j l)

/-- The accumulator after `n` hops is what those hops add. -/
theorem accAt_apply (B : Blocks Ideal) (c : Dev nD) (n : ℕ) (r l : Fin 512) :
    accAt B c n (ix2 r l)
      = ∑ h ∈ Finset.range n, hopAt B c (Fin.ofNat 8 h) ⟨r.val / 256, by omega⟩ ⟨r.val % 256, by omega⟩ l := by
  induction n with
  | zero =>
    rw [Finset.range_zero, Finset.sum_empty]
    show Gen.k0_pay15 (F := Ideal) (ix2 r l) = 0
    unfold_payloads
    pointwise
  | succ n ih =>
    rw [Finset.sum_range_succ, ← ih]
    exact step_apply _ _ _ _ _ _ r l

/-- The result of a device is the sum of what its eight hops add. -/
theorem outBlock_apply (B : Blocks Ideal) (c : Dev nD) (b : Fin 2) (i : Fin 256) (l : Fin 512) :
    outBlock B c (ix3 b i l) = ∑ h : Fin 8, hopAt B c h b i l := by
  have e := accAt_apply B c 8
  unfold outBlock
  have hb : (b.val * 256 + i.val) / 256 = b.val := by omega
  have hi : (b.val * 256 + i.val) % 256 = i.val := by omega
  pointwise [e, hb, hi]
  rw [Finset.sum_range]
  exact Finset.sum_congr rfl fun h _ => congrArg (hopAt B c · b i l) (Fin.ext (Nat.mod_eq_of_lt h.isLt))

end Cert.KernelIdeal.Ring
end
end
-- ==== Proof.Value.Blocks.lean ====
module

public import proofs.«01_k».proof.Proof.Value.Step
public import proofs.«01_k».proof.Proof.Ring.Launch
public import Idealize.ShloMosaic.Lib.Pipeline.ValueKit
public import Idealize.ShloMosaic.Lib.Claim
public import Idealize.ShloMosaic.Lib.Pipeline.ValueKit
public import Idealize.ShloMosaic.Lib.Claim

@[expose] public section

set_option maxRecDepth 16384

noncomputable section

/-! # The kernel's result from the arrays that the devices hold

The blocks that a launch gives the devices are read down to the arrays in memory; a device's result is then its block
of the result of the whole arrays. -/

namespace Cert.KernelIdeal.Ring

open Idealize.ShloMosaic Cert.Attend
open Idealize.ShloMosaic.TcCoe
open Idealize.ShloMosaic.TcCoe
open Facts₀ Facts

/-- The keys that a device fetches for a hop: the columns of the block that the hop treats, in the device's two batch
entries. -/
theorem blockK_apply (B : Blocks Ideal) (c : Dev nD) (h : Fin 8) (b : Fin 2) (j q : Fin 256) :
    blockK B c h (ix3 b j q)
      = B.k c (ix3 ⟨2 * c.val + b.val, by have := c.isLt; simp only [nD] at this; omega⟩ j
          ⟨256 * (back c h).val + q.val, by have := (back c h).isLt; simp only [nD] at this; omega⟩) := by
  show B.k c ((rectV c h).emb (ix3 b j q)) = _
  congr 1
  funext a
  apply Fin.ext
  show k0_off1 c (BitVec.ofNat 32 h.val) a + 1 * (ix3 b j q a).val = _
  rw [Gen.k0_off1_eq]
  fin_cases a
  · show 2 * c.val + 1 * b.val = 2 * c.val + b.val; omega
  · show 0 + 1 * j.val = j.val; omega
  · show 256 * ((c.val + 8 - h.val) % 8) + 1 * q.val = 256 * ((c.val + 8 - h.val) % 8) + q.val; omega

/-- The values that a device fetches for a hop: the columns of the block that the hop treats, in the device's two batch
entries. -/
theorem blockV_apply (B : Blocks Ideal) (c : Dev nD) (h : Fin 8) (b : Fin 2) (j q : Fin 256) :
    blockV B c h (ix3 b j q)
      = B.v c (ix3 ⟨2 * c.val + b.val, by have := c.isLt; simp only [nD] at this; omega⟩ j
          ⟨256 * (back c h).val + q.val, by have := (back c h).isLt; simp only [nD] at this; omega⟩) := by
  show B.v c ((rectV c h).emb (ix3 b j q)) = _
  congr 1
  funext a
  apply Fin.ext
  show k0_off1 c (BitVec.ofNat 32 h.val) a + 1 * (ix3 b j q a).val = _
  rw [Gen.k0_off1_eq]
  fin_cases a
  · show 2 * c.val + 1 * b.val = 2 * c.val + b.val; omega
  · show 0 + 1 * j.val = j.val; omega
  · show 256 * ((c.val + 8 - h.val) % 8) + 1 * q.val = 256 * ((c.val + 8 - h.val) % 8) + q.val; omega

variable (m : (ℓ : Loc nD τ sig) → Buf (Elt Ideal) ℓ)

/-- The window of the activations lies at the start of its array. -/
theorem index_x : win0_0.index Gen.t0_0 = ![0, 0, 0] := by decide +kernel
/-- The window of the query weights lies at the start of its array. -/
theorem index_wq : win0_1.index Gen.t0_0 = ![0, 0] := by decide +kernel
/-- The window of the output weights lies at the start of its array. -/
theorem index_wo : win0_2.index Gen.t0_0 = ![0, 0] := by decide +kernel

/-- A device's block of activations is its array. -/
theorem blocks_x (c : Dev nD) (b : Fin 2) (i : Fin 256) (e : Fin 512) :
    (blocks m).x c (ix3 b i e) = m ((c : Thread nD τ).loc main_arg0) (ix3 b i e) := by
  show Gen.iblk m c 0 Gen.t0_0 (ix3 b i e) = _
  blk_ext! [Gen.iblk, Gen.V, index_x]

/-- A device's block of query weights is its array. -/
theorem blocks_wq (c : Dev nD) (e : Fin 512) (j : Fin 256) :
    (blocks m).wq c (ix2 e j) = m ((c : Thread nD τ).loc main_arg1) (ix2 e j) := by
  show Gen.iblk m c 1 Gen.t0_0 (ix2 e j) = _
  blk_ext! [Gen.iblk, Gen.V, index_wq]

/-- A device's block of output weights is its array. -/
theorem blocks_wo (c : Dev nD) (j : Fin 256) (l : Fin 512) :
    (blocks m).wo c (ix2 j l) = m ((c : Thread nD τ).loc main_arg4) (ix2 j l) := by
  show Gen.iblk m c 2 Gen.t0_0 (ix2 j l) = _
  blk_ext! [Gen.iblk, Gen.V, index_wo]

/-- The keys as the kernel reads them, the heads' columns side by side. -/
theorem blocks_k (c : Dev nD) (s : Fin 16) (j : Fin 256) (q : Fin 2048) :
    (blocks m).k c (ix3 s j q)
      = m ((c : Thread nD τ).loc main_arg2) (ix4 s j ⟨q.val / 64, by omega⟩ ⟨q.val % 64, by omega⟩) := by
  show Gen.V m c main_v1 (ix3 s j q) = _
  entry_read
  pointwise

/-- The values as the kernel reads them, the heads' columns side by side. -/
theorem blocks_v (c : Dev nD) (s : Fin 16) (j : Fin 256) (q : Fin 2048) :
    (blocks m).v c (ix3 s j q)
      = m ((c : Thread nD τ).loc main_arg3) (ix4 s j ⟨q.val / 64, by omega⟩ ⟨q.val % 64, by omega⟩) := by
  show Gen.V m c main_v2 (ix3 s j q) = _
  entry_read
  pointwise

/-- Batch entry `b` of device `c`'s two. -/
def entry (c : Fin 8) (b : Fin 2) : Fin 16 := ⟨2 * c.val + b.val, by omega⟩

/-- The devices hold the arrays `A`: the activations in blocks of two batch entries, the weights in blocks of 256
columns and of 256 rows, the keys and the values whole. -/
structure Holds (A : Arrays) : Prop where
  x : ∀ (c : Dev nD) b i e, m ((c : Thread nD τ).loc main_arg0) (ix3 b i e) = A.x (entry c b) i e
  wq : ∀ (c : Dev nD) e (j : Fin 256), m ((c : Thread nD τ).loc main_arg1) (ix2 e j)
    = A.wq e ⟨256 * c.val + j.val, by have : c.val < 8 := c.isLt; omega⟩
  k : ∀ (c : Dev nD) s j g d, m ((c : Thread nD τ).loc main_arg2) (ix4 s j g d) = A.k s j g d
  v : ∀ (c : Dev nD) s j g d, m ((c : Thread nD τ).loc main_arg3) (ix4 s j g d) = A.v s j g d
  wo : ∀ (c : Dev nD) (j : Fin 256) l, m ((c : Thread nD τ).loc main_arg4) (ix2 j l)
    = A.wo ⟨256 * c.val + j.val, by have : c.val < 8 := c.isLt; omega⟩ l

/-- What a hop adds is the part of the result that the block it treats gives. -/
theorem hopAt_blocks {A : Arrays} (H : Holds m A) (c : Dev nD) (h : Fin 8) (b : Fin 2) (i : Fin 256) (l : Fin 512) :
    hopAt (blocks m) c h b i l = A.part (back c h) (entry c b) i l := by
  unfold hopAt Arrays.part Arrays.term Arrays.context
  have ho : (back c h).val < 8 := (back c h).isLt
  refine Finset.sum_congr rfl fun j _ => ?_
  rw [headAt_apply, blocks_wo, H.wo]
  have e₁ : (256 * (back c h).val + j.val) / 64 = 4 * (back c h).val + j.val / 64 := by omega
  have e₂ : (256 * (back c h).val + j.val) % 64 = j.val % 64 := by omega
  have e₃ : ∀ d : Fin 64, (64 * (4 * (back c h).val + j.val / 64) + d.val) / 64 = 4 * (back c h).val + j.val / 64 := by
    omega
  have e₄ : ∀ d : Fin 64, (64 * (4 * (back c h).val + j.val / 64) + d.val) % 64 = d.val := by omega
  have e₅ : ∀ d : Fin 64, 256 * (back c h).val + (64 * (j.val / 64) + d.val)
      = 64 * (4 * (back c h).val + j.val / 64) + d.val := by omega
  simp only [blocks_x, blocks_wq, blockK_apply, blockV_apply, blocks_k, blocks_v, H.x, H.wq, H.k, H.v, e₁, e₂, e₅]
  simp only [e₃, e₄, Fin.eta]
  rfl

/-- The blocks that a device treats on its eight hops are the eight blocks. -/
theorem back_bijective (c : Dev nD) : Function.Bijective (back c) := by
  revert c; decide +kernel

/-- The result of a device is its block of the result. -/
theorem outBlock_blocks {A : Arrays} (H : Holds m A) (c : Dev nD) (b : Fin 2) (i : Fin 256) (l : Fin 512) :
    outBlock (blocks m) c (ix3 b i l) = A.result (entry c b) i l := by
  rw [outBlock_apply, A.result_eq]
  simp only [hopAt_blocks m H]
  exact (back_bijective c).sum_comp (fun o => A.part o (entry c b) i l)

end Cert.KernelIdeal.Ring
end
end
-- ==== Proof.Value.Reference.lean ====
module

public import proofs.«01_k».proof.Proof.Gen.ReferenceIdeal.Run
public import proofs.«01_k».proof.Proof.Value.Attend
public import Idealize.ShloMosaic.Lib.Pointwise.Reduce
public import Idealize.ShloMosaic.Lib.Pointwise.Reshape
public import Idealize.ShloMosaic.Lib.Pointwise.Select
public import Idealize.ShloMosaic.PureOps.Ideal.Laws
public import Idealize.ShloMosaic.Lib.Routing.OpsOrder

@[expose] public section

set_option maxRecDepth 16384

noncomputable section

/-! # What the reference computes

The reference's result is cut into named pieces, each read at an index. -/

namespace Cert.ReferenceIdeal.Pieces

open Idealize.ShloMosaic Cert.Attend
open Facts₀ Facts

/-- The tile numbers of rows or columns. -/
def tiles : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))

/-- Tile numbers laid along the rows of a matrix. -/
def rows (t : IVec S256 32) : IVec S256x256 32 :=
  broadcastInDim S256x256 ![0, 1] bcast_S256x1_S256x256_0_1 (broadcastInDim S256x1 ![0] bcast_S256_S256x1_0 t)
/-- Tile numbers laid along the columns of a matrix. -/
def cols (t : IVec S256 32) : IVec S256x256 32 :=
  broadcastInDim S256x256 ![0, 1] bcast_S1x256_S256x256_0_1 (broadcastInDim S1x256 ![1] bcast_S256_S1x256_1 t)

/-- The divisor three, guarded against zero. -/
def three : IVec S_ 32 :=
  select (cmpi .eq (id (constantI S_ 32 3#32)) (constantI S_ 32 0#32)) (constantI S_ 32 1#32) (id (constantI S_ 32 3#32))

/-- The rest by three of the sum of the two tile numbers, the division truncated towards zero. -/
def rest (t : IVec S256 32) : IVec S256x256 32 :=
  Host.remsi (addi (rows t) (cols t)) (broadcastInDim S256x256 ![] bcast_S_S256x256 three)
/-- The rest of the division rounded down, from that of the truncated one. -/
def floorRest (r : IVec S256x256 32) : IVec S256x256 32 :=
  select (andi (cmpi .ne (cmpi .slt r (broadcastInDim S256x256 ![] bcast_S_S256x256 (constantI S_ 32 0#32)))
        (broadcastInDim S256x256 ![] bcast_S_S256x256 (cmpi .slt three (constantI S_ 32 0#32))))
      (cmpi .ne r (broadcastInDim S256x256 ![] bcast_S_S256x256 (constantI S_ 32 0#32))))
    (addi r (broadcastInDim S256x256 ![] bcast_S_S256x256 three)) r

/-- The mask of the scores. -/
def mask : IVec S256x256 1 :=
  ori (ori (cmpi .eq (rows tiles) (cols tiles))
      (broadcastInDim S256x256 ![0, 1] bcast_S1x256_S256x256_0_1
        (cmpi .eq (broadcastInDim S1x256 ![1] bcast_S256_S1x256_1 tiles)
          (broadcastInDim S1x256 ![] bcast_S_S1x256 (constantI S_ 32 0#32)))))
    (cmpi .eq (floorRest (rest tiles)) (broadcastInDim S256x256 ![] bcast_S_S256x256 (constantI S_ 32 0#32)))

/-- Which rows keep some score. -/
def kept : IVec S256 1 := Host.reduce IntOp.ori mask (constantI S_ 1 0#1) reducesTo_S256x256_S256_d1 h_S_

variable {F : FTy → Type} [FloatOps F]

/-- The queries, by heads. -/
def queries (x : FVec F S16x256x512 .f32) (wq : FVec F S512x2048 .f32) : FVec F S16x256x32x64 .f32 :=
  shapeCast _ (Host.dotGeneral dot_S16x256x512_S512x2048_S16x256x2048_2_0_01_1_n_n none x wq)
    shapeCasts_S16x256x2048_S16x256x32x64

/-- The masked scores of all heads. -/
def scores (q k : FVec F S16x256x32x64 .f32) : FVec F S16x32x256x256 .f32 :=
  select (broadcastInDim S16x32x256x256 ![0, 1, 2, 3] bcast_S1x1x256x256_S16x32x256x256_0_1_2_3
      (broadcastInDim S1x1x256x256 ![2, 3] bcast_S256x256_S1x1x256x256_2_3 mask))
    (mulf (Host.dotGeneral dot_S16x256x32x64_S16x256x32x64_S16x32x256x256_3_3_1_1_02_02 none q k)
      (broadcastInDim S16x32x256x256 ![] bcast_S_S16x32x256x256 (constant S_ .f32 0x3E000000#32)))
    (broadcastInDim S16x32x256x256 ![] bcast_S_S16x32x256x256 (id (constant S_ .f32 0xCE6E6B28#32)))

/-- The exponentials of the scores less their row's maximum. -/
def weights (s : FVec F S16x32x256x256 .f32) : FVec F S16x32x256x256 .f32 :=
  Host.exp (subf s (broadcastInDim S16x32x256x256 ![0, 1, 2, 3] bcast_S16x32x256x1_S16x32x256x256_0_1_2_3
    (broadcastInDim S16x32x256x1 ![0, 1, 2] bcast_S16x32x256_S16x32x256x1_0_1_2
      (Host.reduce FloatOps.maximumf s (constant S_ .f32 0xFF800000#32) reducesTo_S16x32x256x256_S16x32x256_d3 h_S_))))

/-- The exponentials divided by their row's sum, zero in a row that keeps nothing. -/
def shares (e : FVec F S16x32x256x256 .f32) : FVec F S16x32x256x256 .f32 :=
  select (broadcastInDim S16x32x256x256 ![0, 1, 2, 3] bcast_S1x1x256x1_S16x32x256x256_0_1_2_3
      (broadcastInDim S1x1x256x1 ![2] bcast_S256_S1x1x256x1_2 kept))
    (Host.divf e (broadcastInDim S16x32x256x256 ![0, 1, 2, 3] bcast_S16x32x256x1_S16x32x256x256_0_1_2_3
      (select (broadcastInDim S16x32x256x1 ![0, 1, 2, 3] bcast_S1x1x256x1_S16x32x256x1_0_1_2_3
          (broadcastInDim S1x1x256x1 ![2] bcast_S256_S1x1x256x1_2 kept))
        (broadcastInDim S16x32x256x1 ![0, 1, 2] bcast_S16x32x256_S16x32x256x1_0_1_2
          (Host.reduceAdd e (constant S_ .f32 0x00000000#32) reducesTo_S16x32x256x256_S16x32x256_d3 h_S_))
        (broadcastInDim S16x32x256x1 ![] bcast_S_S16x32x256x1 (id (constant S_ .f32 0x3F800000#32))))))
    (broadcastInDim S16x32x256x256 ![] bcast_S_S16x32x256x256 (id (constant S_ .f32 0x00000000#32)))

/-- The values averaged by the shares. -/
def averages (v : FVec F S16x256x32x64 .f32) (w : FVec F S16x32x256x256 .f32) : FVec F S16x32x64x256 .f32 :=
  Host.dotGeneral dot_S16x256x32x64_S16x32x256x256_S16x32x64x256_1_3_3_2_02_01 none v w

/-- The heads' results side by side, times the output weights. -/
def project (a : FVec F S16x32x64x256 .f32) (wo : FVec F S2048x512 .f32) : FVec F S16x256x512 .f32 :=
  Host.dotGeneral dot_S16x256x2048_S2048x512_S16x256x512_2_0_01_1_n_n none
    (shapeCast _ (transpose S16x256x32x64 [0, 3, 1, 2] a transposes_S16x32x64x256_S16x256x32x64_0_3_1_2)
      shapeCasts_S16x256x32x64_S16x256x2048) wo

/-- The reference's result is made of the pieces. -/
theorem res_eq (m : (ℓ : Loc nD τ sig) → Buf (Elt F) ℓ) (c : Dev nD) :
    Value.res_main_v44 m c
      = project (averages (m ((c.tc : Thread nD τ).loc main_arg3))
          (shares (weights (scores (queries (m ((c.tc : Thread nD τ).loc main_arg0)) (m ((c.tc : Thread nD τ).loc main_arg1)))
            (m ((c.tc : Thread nD τ).loc main_arg2)))))) (m ((c.tc : Thread nD τ).loc main_arg4)) := rfl

/-- A tile number is the quotient by 64. -/
theorem tiles_apply (i : Fin 256) : tiles (ix1 i) = BitVec.ofNat 32 (i.val / 64) := by
  unfold tiles
  pointwise
  revert i
  decide +kernel

/-- Laid along the rows, a tile number is that of the row. -/
theorem rows_apply (t : IVec S256 32) (i j : Fin 256) : rows t (ix2 i j) = t (ix1 i) := by
  unfold rows
  pointwise
/-- Laid along the columns, a tile number is that of the column. -/
theorem cols_apply (t : IVec S256 32) (i j : Fin 256) : cols t (ix2 i j) = t (ix1 j) := by
  unfold cols
  pointwise

/-- The reference's mask keeps the tiles of the pattern. -/
theorem mask_apply (i j : Fin 256) : mask (ix2 i j) = keep i j := by
  unfold mask floorRest rest three keep
  pointwise [rows_apply, cols_apply, tiles_apply]
  have hi : i.val / 64 < 4 := by omega
  have hj : j.val / 64 < 4 := by omega
  generalize i.val / 64 = a at *
  generalize j.val / 64 = b at *
  revert a b
  decide +kernel

/-- Every row keeps some score: those of the first column of tiles. -/
theorem kept_apply (i : Fin 256) : kept (ix1 i) = 1#1 := by
  unfold kept
  pointwise
  refine (Idealize.ShloMosaic.Routing.fold_ori _ _).mpr ⟨0, Finset.mem_univ _, ?_⟩
  rw [mask_apply]
  exact if_pos (.inr (.inl rfl))

/-- The queries at an index. -/
theorem queries_apply (x : FVec Ideal S16x256x512 .f32) (wq : FVec Ideal S512x2048 .f32) (s : Fin 16) (i : Fin 256) (g : Fin 32)
    (d : Fin 64) : queries x wq (ix4 s i g d) = ∑ e : Fin 512, x (ix3 s i e) * wq (ix2 e ⟨64 * g.val + d.val, by omega⟩) := by
  unfold queries
  have e : g.val * 64 + d.val = 64 * g.val + d.val := by omega
  pointwise [e]

/-- The scores at an index. -/
theorem scores_apply (q k : FVec Ideal S16x256x32x64 .f32) (s : Fin 16) (g : Fin 32) (i j : Fin 256) :
    scores q k (ix4 s g i j) = score (fun i d => q (ix4 s i g d)) (fun j d => k (ix4 s j g d)) i j := by
  unfold scores score
  pointwise [mask_apply]
  rfl

/-- The exponentials at an index. -/
theorem weights_apply (e : FVec Ideal S16x32x256x256 .f32) (s : Fin 16) (g : Fin 32) (i j : Fin 256) :
    weights e (ix4 s g i j) = weight (fun i j => e (ix4 s g i j)) i j := by
  unfold weights weight top
  pointwise

/-- The shares at an index. -/
theorem shares_apply (e : FVec Ideal S16x32x256x256 .f32) (s : Fin 16) (g : Fin 32) (i j : Fin 256) :
    shares e (ix4 s g i j) = share (fun i j => e (ix4 s g i j)) i j := by
  unfold shares share
  pointwise [kept_apply]

/-- The averaged values at an index. -/
theorem averages_apply (v : FVec Ideal S16x256x32x64 .f32) (w : FVec Ideal S16x32x256x256 .f32) (s : Fin 16) (g : Fin 32)
    (i : Fin 256) (d : Fin 64) :
    averages v w (ix4 s g d i) = ∑ j : Fin 256, w (ix4 s g i j) * v (ix4 s j g d) := by
  unfold averages
  pointwise
  exact Finset.sum_congr rfl fun j _ => mul_comm _ _

/-- The result at an index. -/
theorem project_apply (a : FVec Ideal S16x32x64x256 .f32) (wo : FVec Ideal S2048x512 .f32) (s : Fin 16) (i : Fin 256)
    (l : Fin 512) :
    project a wo (ix3 s i l)
      = ∑ J : Fin 2048, a (ix4 s ⟨J.val / 64, by omega⟩ ⟨J.val % 64, by omega⟩ i) * wo (ix2 J l) := by
  unfold project
  pointwise

/-- The whole arrays that the reference reads. -/
def arrays (m : (ℓ : Loc nD τ sig) → Buf (Elt Ideal) ℓ) (c : Dev nD) : Arrays where
  x s i e := m ((c.tc : Thread nD τ).loc main_arg0) (ix3 s i e)
  wq e j := m ((c.tc : Thread nD τ).loc main_arg1) (ix2 e j)
  k s j g d := m ((c.tc : Thread nD τ).loc main_arg2) (ix4 s j g d)
  v s j g d := m ((c.tc : Thread nD τ).loc main_arg3) (ix4 s j g d)
  wo j l := m ((c.tc : Thread nD τ).loc main_arg4) (ix2 j l)

/-- The reference computes the result of its arrays. -/
theorem res_apply (m : (ℓ : Loc nD τ sig) → Buf (Elt Ideal) ℓ) (c : Dev nD) (s : Fin 16) (i : Fin 256) (l : Fin 512) :
    Value.res_main_v44 m c (ix3 s i l) = (arrays m c).result s i l := by
  rw [res_eq, project_apply]
  unfold Arrays.result Arrays.term Arrays.context attend
  simp only [averages_apply, shares_apply, weights_apply, scores_apply, queries_apply]
  rfl

end Cert.ReferenceIdeal.Pieces
end
end
-- ==== Proof.Value.Equation.lean ====
module

public import proofs.«01_k».proof.Defs
public import proofs.«01_k».proof.Proof.Gen.KernelIdeal
public import proofs.«01_k».proof.Proof.Value.Blocks
public import proofs.«01_k».proof.Proof.Value.Reference

@[expose] public section

set_option maxRecDepth 16384

noncomputable section

/-! # The two programs compute the same result

Each device of the kernel ends with its block of the result that the reference computes from the whole arrays. -/

namespace Cert.Equation

open Idealize.ShloMosaic Idealize.ShloMosaic.TcCoe Idealize.SL.Sem Cert.Attend
open Cert.KernelIdeal.Ring (Holds entry blocks outBlock)

/-- The kernel's memory holds what the reference's does, in blocks. -/
def Shared (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    m ((c.tc : Thread _ Cert.KernelIdeal.τ).loc Cert.KernelIdeal.main_arg0)
      = Layout.block ⟨3, ![2, 256, 512]⟩ ⟨3, ![16, 256, 512]⟩ 0 8 c
          (m' (((0 : Dev Cert.ReferenceIdeal.nD).tc : Thread _ Cert.ReferenceIdeal.τ).loc Cert.ReferenceIdeal.main_arg0))
    ∧ m ((c.tc : Thread _ Cert.KernelIdeal.τ).loc Cert.KernelIdeal.main_arg1)
      = Layout.block ⟨2, ![512, 256]⟩ ⟨2, ![512, 2048]⟩ 1 8 c
          (m' (((0 : Dev Cert.ReferenceIdeal.nD).tc : Thread _ Cert.ReferenceIdeal.τ).loc Cert.ReferenceIdeal.main_arg1))
    ∧ m ((c.tc : Thread _ Cert.KernelIdeal.τ).loc Cert.KernelIdeal.main_arg2)
      = m' (((0 : Dev Cert.ReferenceIdeal.nD).tc : Thread _ Cert.ReferenceIdeal.τ).loc Cert.ReferenceIdeal.main_arg2)
    ∧ m ((c.tc : Thread _ Cert.KernelIdeal.τ).loc Cert.KernelIdeal.main_arg3)
      = m' (((0 : Dev Cert.ReferenceIdeal.nD).tc : Thread _ Cert.ReferenceIdeal.τ).loc Cert.ReferenceIdeal.main_arg3)
    ∧ m ((c.tc : Thread _ Cert.KernelIdeal.τ).loc Cert.KernelIdeal.main_arg4)
      = Layout.block ⟨2, ![256, 512]⟩ ⟨2, ![2048, 512]⟩ 0 8 c
          (m' (((0 : Dev Cert.ReferenceIdeal.nD).tc : Thread _ Cert.ReferenceIdeal.τ).loc Cert.ReferenceIdeal.main_arg4))

/-- Where an index of block `c` of the activations, or of the result, lies in the whole. -/
theorem entry_idx (h : Layout.Tiles ⟨3, ![2, 256, 512]⟩ ⟨3, ![16, 256, 512]⟩ 0 8) (c : Fin 8) (b : Fin 2) (i : Fin 256)
    (e : Fin 512) : h.idx c (ix3 b i e) = ix3 (entry c b) i e := by
  funext a
  apply Fin.ext
  fin_cases a
  · show c.val * 2 + b.val = 2 * c.val + b.val; omega
  · rfl
  · rfl

/-- Where an index of block `c` of the query weights lies in the whole. -/
theorem column_idx (h : Layout.Tiles ⟨2, ![512, 256]⟩ ⟨2, ![512, 2048]⟩ 1 8) (c : Fin 8) (e : Fin 512) (j : Fin 256) :
    h.idx c (ix2 e j) = ix2 e ⟨256 * c.val + j.val, by omega⟩ := by
  funext a
  apply Fin.ext
  fin_cases a
  · rfl
  · show c.val * 256 + j.val = 256 * c.val + j.val; omega

/-- Where an index of block `c` of the output weights lies in the whole. -/
theorem row_idx (h : Layout.Tiles ⟨2, ![256, 512]⟩ ⟨2, ![2048, 512]⟩ 0 8) (c : Fin 8) (j : Fin 256) (l : Fin 512) :
    h.idx c (ix2 j l) = ix2 ⟨256 * c.val + j.val, by omega⟩ l := by
  funext a
  apply Fin.ext
  fin_cases a
  · show c.val * 256 + j.val = 256 * c.val + j.val; omega
  · rfl

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The devices hold the reference's arrays. -/
theorem holds (H : Shared m m') : Holds m (Cert.ReferenceIdeal.Pieces.arrays m' 0) where
  x c b i e := (congrFun (H c).1 (ix3 b i e)).trans (congrArg _ (entry_idx _ c b i e))
  wq c e j := (congrFun (H c).2.1 (ix2 e j)).trans (congrArg _ (column_idx _ c e j))
  k c s j g d := congrFun (H c).2.2.1 (ix4 s j g d)
  v c s j g d := congrFun (H c).2.2.2.1 (ix4 s j g d)
  wo c j l := (congrFun (H c).2.2.2.2 (ix2 j l)).trans (congrArg _ (row_idx _ c j l))

/-- A device's result is its block of the reference's. -/
theorem outBlock_eq (H : Shared m m') (c : Dev Cert.KernelIdeal.nD) :
    outBlock (blocks m) c
      = Layout.block ⟨3, ![2, 256, 512]⟩ ⟨3, ![16, 256, 512]⟩ 0 8 c (Cert.ReferenceIdeal.Value.res_main_v44 m' 0) := by
  funext y
  rw [eq_ix3 y]
  refine (Cert.KernelIdeal.Ring.outBlock_blocks m (holds H) c (y 0) (y 1) (y 2)).trans ?_
  rw [Layout.block_apply]
  exact ((congrArg _ (entry_idx _ c (y 0) (y 1) (y 2))).trans
    (Cert.ReferenceIdeal.Pieces.res_apply m' 0 (entry c (y 0)) (y 1) (y 2))).symm

/-- The kernel computes the reference's result: device `c` its block of it. -/
theorem algebraic : Cert.algebraic_KernelIdeal_ReferenceIdeal := fun m g m' g' _ H =>
  ⟨Cert.ReferenceIdeal.Value.res_main_v44 m' 0,
    (θ_run Cert.KernelIdeal.defs _ _).mono
      (fun _ h c => ⟨(h.1 c).2.trans (outBlock_eq H c), (h.1 c).1⟩) (Cert.KernelIdeal.Ring.run_main m g),
    (θ_run Cert.ReferenceIdeal.defs _ _).mono (fun _ h => h 0) (Cert.ReferenceIdeal.Value.run m' g')⟩

end Cert.Equation
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ring.Frames
public import proofs.«01_k».proof.Proof.Value.Equation
public import Idealize.ShloMosaic.Adequacy
public import Idealize.ShloMosaic.Init

@[expose] public section

noncomputable section

namespace Cert.Proof

open Idealize.ShloMosaic Idealize.SL.Sem Cert.Kernel

/-- The reference runs and leaves its arguments as they were; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- All five claims, with the witnesses of the programs' stated facts. -/
theorem claim : Cert.Claim := ⟨Cert.Kernel.Gen.facts, Cert.KernelIdeal.Gen.facts, Cert.ReferenceIdeal.Gen.facts,
  Cert.KernelIdeal.Ring.frame_kernel, Cert.KernelIdeal.Ring.frame_ideal, frame_reference, trivial, Cert.Equation.algebraic⟩

end Cert.Proof

end
